-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stays_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x512x512 : Shape := ⟨3, ![1, 512, 512]⟩
abbrev S2 : Shape := ⟨1, ![2]⟩
abbrev S4 : Shape := ⟨1, ![4]⟩
abbrev S1 : Shape := ⟨1, ![1]⟩
abbrev S_ : Shape := ⟨0, ![]⟩
abbrev S1x128x512 : Shape := ⟨3, ![1, 128, 512]⟩
abbrev S128x512 : Shape := ⟨2, ![128, 512]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S2, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .smem, ⟨0, _⟩ => ⟨S2, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : Index := Scalar.indexCast v5
  ![v9.toNat]
def k0_dev1 (d0 : Dev nD) (v10 : BitVec 32) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v12 : BitVec 32 := Scalar.muli v2 c4_i32_4
  let v13 : BitVec 32 := Scalar.addi c0_i32 v12
  let c2_i32_5 : BitVec 32 := 2#32
  let v14 : BitVec 32 := Scalar.muli v10 c2_i32_5
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v16 : BitVec 32 := Scalar.muli v8 c1_i32_6
  let v17 : BitVec 32 := Scalar.addi v15 v16
  v17.toNat

def k0_dev2 (d0 : Dev nD) (v10 : BitVec 32) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v23 : BitVec 32 := Scalar.muli v2 c4_i32_15
  let v24 : BitVec 32 := Scalar.addi c0_i32_16 v23
  let c2_i32_17 : BitVec 32 := 2#32
  let v25 : BitVec 32 := Scalar.muli v10 c2_i32_17
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.muli v8 c1_i32_18
  let v28 : BitVec 32 := Scalar.addi v26 v27
  v28.toNat
def k0_dev3 (d0 : Dev nD) (v10 : BitVec 32) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v40 : BitVec 32 := Scalar.muli v2 c4_i32_32
  let v41 : BitVec 32 := Scalar.addi c0_i32_33 v40
  let c2_i32_34 : BitVec 32 := 2#32
  let v42 : BitVec 32 := Scalar.muli v10 c2_i32_34
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v44 : BitVec 32 := Scalar.muli v8 c1_i32_35
  let v45 : BitVec 32 := Scalar.addi v43 v44
  v45.toNat
def k0_dev4 (d0 : Dev nD) (v10 : BitVec 32) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v57 : BitVec 32 := Scalar.muli v2 c4_i32_48
  let v58 : BitVec 32 := Scalar.addi c0_i32_49 v57
  let c2_i32_50 : BitVec 32 := 2#32
  let v59 : BitVec 32 := Scalar.muli v10 c2_i32_50
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v61 : BitVec 32 := Scalar.muli v8 c1_i32_51
  let v62 : BitVec 32 := Scalar.addi v60 v61
  v62.toNat
def k0_dev5 (d0 : Dev nD) (v10 : BitVec 32) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v74 : BitVec 32 := Scalar.muli v2 c4_i32_63
  let v75 : BitVec 32 := Scalar.addi c0_i32_64 v74
  let c2_i32_65 : BitVec 32 := 2#32
  let v76 : BitVec 32 := Scalar.muli v10 c2_i32_65
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v78 : BitVec 32 := Scalar.muli v8 c1_i32_66
  let v79 : BitVec 32 := Scalar.addi v77 v78
  v79.toNat

def k0_chk1 (d0 : Dev nD) (v10 : BitVec 32) : Prop :=
  ((k0_dev1 d0 v10) < nD) ∧
  ((k0_dev2 d0 v10) < nD) ∧
  ((k0_dev3 d0 v10) < nD) ∧
  ((k0_dev4 d0 v10) < nD) ∧
  ((k0_dev5 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev2_lt : ∀ (d0 : Dev nD) (v10 : BitVec 32) (k0_hw1 : k0_chk1 d0 v10), (k0_dev2 d0 v10) < nD := fun d0 v10 k0_hw1 => k0_hw1.2.1
theorem k0_dev3_lt : ∀ (d0 : Dev nD) (v10 : BitVec 32) (k0_hw1 : k0_chk1 d0 v10), (k0_dev3 d0 v10) < nD := fun d0 v10 k0_hw1 => k0_hw1.2.2.1
theorem k0_dev4_lt : ∀ (d0 : Dev nD) (v10 : BitVec 32) (k0_hw1 : k0_chk1 d0 v10), (k0_dev4 d0 v10) < nD := fun d0 v10 k0_hw1 => k0_hw1.2.2.2.1
theorem k0_dev5_lt : ∀ (d0 : Dev nD) (v10 : BitVec 32) (k0_hw1 : k0_chk1 d0 v10), (k0_dev5 d0 v10) < nD := fun d0 v10 k0_hw1 => k0_hw1.2.2.2.2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .bf16⟩
  | .hbm, ⟨14, _⟩ => ⟨S2x512x512, .f32⟩
  | .hbm, ⟨15, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.KernelIdeal.Protocol.lean ====
/-
# The exchange protocol of the chunked swap kernel

Eight devices form a 2 × 2 × 2 mesh over (x, y, z); device `c` has logical id `4 x + 2 y + z`. Device `c` reads word
`y` of its copy of the table and exchanges its whole block with the device of the same `x` and `z` whose `y` is that
word. With the table `[1, 0]` that is the device across the `y` axis; with `[0, 1]` it is `c` itself. Both are covered
at once by the parameter `b` (`true`: the table swaps; `false`: the table keeps), through the involution `peer b`.

Each device owns nine semaphores of the exchange, every one used for one round:

* the barrier semaphore: signalled once by the peer, waited for once, by 1. The signal hands over the peer's whole
  result buffer, to be written by the transfers of the device that waits;
* send semaphore `k` (of four): credited by the device's own transfer of chunk `k` when the source has been read,
  which hands the chunk of the communication buffer back, still holding chunk `k` of the device's own block;
* receive semaphore `k` (of four): credited by the peer's transfer of chunk `k` when it has landed, which hands over
  chunk `k` of the device's own result buffer, now holding chunk `k` of the peer's block.

Order on a device: signal the peer; copy chunk 0 into the communication buffer; wait for the barrier; then start
transfer `k` and copy chunk `k + 1` for `k = 0, …, 3`; then wait for send `k` and receive `k` for `k = 0, …, 3`.
What a device owes at launch is its barrier signal and its four landings, so a wait for the barrier must lie below the
receive semaphores and a wait for a staging copy below both.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the staging pipeline's rounds beside the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The table and the peer -/

/-- Word `y` of the table: `[1, 0]` where it swaps, `[0, 1]` where it keeps. -/
def tab (b : Bool) (y : ℕ) : BitVec 32 := if (y == 0) == b then 1#32 else 0#32

/-- The device that `c` exchanges blocks with: across the `y` axis where the table swaps, itself where it keeps. -/
def peer (b : Bool) (c : Dev nD) : Dev nD := bif b then (![2, 3, 0, 1, 6, 7, 4, 5] : Fin 8 → Fin 8) c else c

theorem peer_peer (b : Bool) (c : Dev nD) : peer b (peer b c) = c := by revert b c; decide

/-- The word that device `c` reads. -/
abbrev tabAt (b : Bool) (c : Dev nD) : BitVec 32 := tab b (c.val / 2 % 2)

/-- With that word every device that the body addresses exists, -/
theorem chk_tab (b : Bool) (c : Dev nD) : k0_chk1 c (tabAt b c) := by revert b c; decide
/-- and the five of them (one for the signal, one for each transfer) are the peer. -/
theorem dev1_tab (b : Bool) (c : Dev nD) : k0_dev1 c (tabAt b c) = (peer b c).val := by revert b c; decide
theorem dev2_tab (b : Bool) (c : Dev nD) : k0_dev2 c (tabAt b c) = (peer b c).val := by revert b c; decide
theorem dev3_tab (b : Bool) (c : Dev nD) : k0_dev3 c (tabAt b c) = (peer b c).val := by revert b c; decide
theorem dev4_tab (b : Bool) (c : Dev nD) : k0_dev4 c (tabAt b c) = (peer b c).val := by revert b c; decide
theorem dev5_tab (b : Bool) (c : Dev nD) : k0_dev5 c (tabAt b c) = (peer b c).val := by revert b c; decide

/-! ## The four chunks of rows -/

/-- Where chunk `k` starts, -/
abbrev offs (k : Fin 4) : Fin 3 → ℕ := ![0, 128 * k.val, 0]
theorem offs_inb (k : Fin 4) : ∀ a, offs k a + S1x128x512.size a ≤ S1x512x512.size a := by revert k; decide
/-- and the rectangle of its 128 rows. -/
abbrev rows (k : Fin 4) : Rect S1x512x512 := Rect.unit (s := S1x512x512) (offs k) S1x128x512.size (offs_inb k)

theorem mem_rows {k : Fin 4} {i : S1x512x512.Idx} : i ∈ (rows k).set ↔ 128 * k.val ≤ (i 1).val ∧ (i 1).val < 128 * k.val + 128 := by
  rw [Rect.mem_set_unit]
  refine ⟨fun h => h 1, fun h a => ?_⟩
  fin_cases a
  · exact ⟨Nat.zero_le _, (i 0).isLt⟩
  · exact h
  · exact ⟨Nat.zero_le _, (i 2).isLt⟩

theorem rows_disjoint (k k' : Fin 4) (h : k ≠ k') : Disjoint (rows k).set (rows k').set := by
  refine Finset.disjoint_left.mpr fun i hi hi' => h (Fin.ext ?_)
  have h1 := mem_rows.mp hi
  have h2 := mem_rows.mp hi'
  omega

theorem rows_cover : (Finset.univ.biUnion fun k : Fin 4 => (rows k).set) = Finset.univ := by
  refine Finset.eq_univ_iff_forall.mpr fun i => Finset.mem_biUnion.mpr ?_
  have hi : (i 1).val < 512 := (i 1).isLt
  exact ⟨⟨(i 1).val / 128, by omega⟩, Finset.mem_univ _, mem_rows.mpr ⟨by simp only []; omega, by simp only []; omega⟩⟩

/-! ## Buffers, semaphores, cells -/

abbrev tM : Memref sig .tc .smem S2 .i32 := Memref.whole cc0_stg0_0
abbrev xM : Memref sig .tc .vmem S1x512x512 .bf16 := Memref.whole cc0_stg1_0
abbrev oM : Memref sig .tc .vmem S1x512x512 .bf16 := Memref.whole cc0_stg2_0
abbrev sM : Memref sig .tc .vmem S1x512x512 .bf16 := Memref.whole cc0_scratch0
/-- Chunk `k` of the result buffer and of the communication buffer. -/
abbrev oV (k : Fin 4) : Memref sig .tc .vmem S1x128x512 .bf16 := oM.slice (rows k) (fun _ => rfl)
abbrev sV (k : Fin 4) : Memref sig .tc .vmem S1x128x512 .bf16 := sM.slice (rows k) (fun _ => rfl)

abbrev barS : Sem sig := barrier0
abbrev sendS (k : Fin 4) : DmaSem sig := ⟨3 + k.val, by have := k.isLt; show 3 + k.val < 11; omega⟩
abbrev recvS (k : Fin 4) : DmaSem sig := ⟨7 + k.val, by have := k.isLt; show 7 + k.val < 11; omega⟩

/-- A device's nine semaphores in one numbering: 0 the barrier, `1 + k` send `k`, `5 + k` receive `k`. -/
abbrev csem (j : Fin 9) : SemLoc sig := if j = 0 then .reg barS else .dma ⟨j.val + 2, by have := j.isLt; show j.val + 2 < 11; omega⟩
abbrev jS (k : Fin 4) : Fin 9 := ⟨1 + k.val, by omega⟩
abbrev jR (k : Fin 4) : Fin 9 := ⟨5 + k.val, by omega⟩

theorem csem_bar : csem 0 = .reg barS := rfl
theorem csem_send (k : Fin 4) : csem (jS k) = .dma (sendS k) := by revert k; decide
theorem csem_recv (k : Fin 4) : csem (jR k) = .dma (recvS k) := by revert k; decide
theorem csem_injective : Function.Injective csem := by decide

abbrev kcell (cj : Dev nD × Fin 9) : GSem nD τ sig := ((cj.1 : Thread nD τ), csem cj.2)

theorem kcell_eq_iff {c c' : Dev nD} {j j' : Fin 9} : kcell (c, j) = kcell (c', j') ↔ c = c' ∧ j = j' := by
  refine ⟨fun h => ⟨?_, csem_injective (congrArg Prod.snd h)⟩, fun h => by rw [h.1, h.2]⟩
  exact congrArg (fun g : GSem nD τ sig => g.1.1) h

theorem kcell_injective : Function.Injective (kcell : Dev nD × Fin 9 → GSem nD τ sig) := fun a a' h => by
  obtain ⟨c, j⟩ := a; obtain ⟨c', j'⟩ := a'
  obtain ⟨rfl, rfl⟩ := kcell_eq_iff.mp h; rfl

/-- The credit of one chunk's transfer. -/
abbrev N : ℕ := (oV 0).view.dmaCredit
theorem N_pos : 0 < N := View.dmaCredit_pos _ (by decide)
theorem credit_out (k : Fin 4) : (oV k).view.dmaCredit = N := rfl
theorem credit_comm (k : Fin 4) : (sV k).view.dmaCredit = N := rfl

/-- What semaphore `j`'s one round counts, -/
def amt (j : Fin 9) : ℕ := if j = 0 then 1 else N
/-- and how much of it the peer owes at launch: nothing on a send semaphore, which the device credits itself. -/
def due (j : Fin 9) : ℕ := if j.val = 0 then 1 else if j.val < 5 then 0 else N

theorem amt_send (k : Fin 4) : amt (jS k) = N := by unfold amt; rw [if_neg (by revert k; decide)]
theorem amt_recv (k : Fin 4) : amt (jR k) = N := by unfold amt; rw [if_neg (by revert k; decide)]
theorem due_recv (k : Fin 4) : due (jR k) = N := by unfold due; rw [if_neg (by revert k; decide), if_neg (by revert k; decide)]

/-! ## Contents and holdings -/

variable (m : (ℓ : Loc nD τ sig) → Buf (Elt F) ℓ) (ρ : Dev nD → PrngReg)

def s₀ : MemSt nD τ sig (Elt F) := ⟨m, fun _ => 0, ρ⟩

/-- The table and the block of `x` as staged on device `c`. -/
def tstg (c : Dev nD) : (cc0_stg0_0 : Ref sig .tc).ty.Contents (Elt F) :=
  (win0_0.blk (0 : Fin 1)).view.read (Elt F) (m ((c : Thread nD τ).loc main_arg1))
def xstg (c : Dev nD) : (cc0_stg1_0 : Ref sig .tc).ty.Contents (Elt F) :=
  (win0_1.blk (0 : Fin 1)).view.read (Elt F) (m ((c : Thread nD τ).loc main_arg0))

/-- Contents of the buffers that hold a block. -/
abbrev Blk (F : FTy → Type) : Type := S1x512x512.Idx → Elt F .bf16

/-- Chunk `k` of device `c`'s communication buffer, and of its result buffer, at contents `f`. -/
def commPts (c : Dev nD) (k : Fin 4) (f : Blk F) : sProp 𝕄 := ((c : Thread nD τ).loc cc0_scratch0) ↦[(rows k).set]{fullShare} f
def outPts (c : Dev nD) (k : Fin 4) (f : Blk F) : sProp 𝕄 := ((c : Thread nD τ).loc cc0_stg2_0) ↦[(rows k).set]{fullShare} f
/-- The whole of each. -/
def commAll (c : Dev nD) (f : Blk F) : sProp 𝕄 := ((c : Thread nD τ).loc cc0_scratch0) ↦{fullShare} f
def outAll (c : Dev nD) (f : Blk F) : sProp 𝕄 := ((c : Thread nD τ).loc cc0_stg2_0) ↦{fullShare} f

omit [FloatOps F] in
instance commPts_storable (c : Dev nD) (k : Fin 4) (f : Blk F) : BI.Storable (upEmb : UEmb _ 𝕄) (commPts c k f) := by
  unfold commPts; infer_instance
omit [FloatOps F] in
instance outPts_storable (c : Dev nD) (k : Fin 4) (f : Blk F) : BI.Storable (upEmb : UEmb _ 𝕄) (outPts c k f) := by
  unfold outPts; infer_instance
omit [FloatOps F] in
instance outAll_storable (c : Dev nD) (f : Blk F) : BI.Storable (upEmb : UEmb _ 𝕄) (outAll c f) := by
  unfold outAll; infer_instance

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A whole buffer is its four chunks. -/
theorem commAll_eq (c : Dev nD) (f : Blk F) : (commAll c f : sProp 𝕄) = iprop(commPts c 0 f ∗ commPts c 1 f ∗ commPts c 2 f ∗ commPts c 3 f) := by
  unfold commAll
  rw [Ring.pointsTo_blocks (fun k : Fin 4 => (rows k).set) rows_disjoint rows_cover, bigSep_fin4]; rfl
omit [FloatOps F] in
theorem outAll_eq (c : Dev nD) (f : Blk F) : (outAll c f : sProp 𝕄) = iprop(outPts c 0 f ∗ outPts c 1 f ∗ outPts c 2 f ∗ outPts c 3 f) := by
  unfold outAll
  rw [Ring.pointsTo_blocks (fun k : Fin 4 => (rows k).set) rows_disjoint rows_cover, bigSep_fin4]; rfl

omit [FloatOps F] in
/-- A chunk as the elements under its view. -/
theorem commPts_eq (c : Dev nD) (k : Fin 4) (f : Blk F) :
    (commPts c k f : sProp 𝕄) = ((sV k).view.loc (c : Thread nD τ) ↦[(sV k).view.set]{fullShare} f) := by
  unfold commPts; rw [show (sV k).view.set = (rows k).set from View.set_slice_whole _ _]
omit [FloatOps F] in
theorem outPts_eq (c : Dev nD) (k : Fin 4) (f : Blk F) :
    (outPts c k f : sProp 𝕄) = ((oV k).view.loc (c : Thread nD τ) ↦[(oV k).view.set]{fullShare} f) := by
  unfold outPts; rw [show (oV k).view.set = (rows k).set from View.set_slice_whole _ _]

omit [FloatOps F] in
/-- A chunk's holding depends on the contents of its rows only. -/
theorem outPts_congr {c : Dev nD} {k : Fin 4} {f g : Blk F} (h : ∀ i ∈ (rows k).set, f i = g i) : (outPts c k f : sProp 𝕄) = outPts c k g :=
  pointsTo_congr h
omit [FloatOps F] in
theorem commPts_congr {c : Dev nD} {k : Fin 4} {f g : Blk F} (h : ∀ i ∈ (rows k).set, f i = g i) : (commPts c k f : sProp 𝕄) = commPts c k g :=
  pointsTo_congr h

omit [FloatOps F] in
/-- What a transfer of chunk `k` leaves in the result buffer agrees on the chunk with the block it was sent from. -/
theorem sent_eq (k : Fin 4) (fd g : Blk F) :
    ∀ i ∈ (rows k).set, (oV k).view.write (Elt F) fd ((sV k).view.read (Elt F) g) Finset.univ i = g i := fun i hi => by
  rw [show (sV k).view.read (Elt F) g = (oV k).view.read (Elt F) g from rfl, View.write_read_eq_piecewise, View.setOn_univ,
    show (oV k).view.set = (rows k).set from View.set_slice_whole _ _]
  exact Finset.piecewise_eq_of_mem _ _ _ hi
omit [FloatOps F] in
/-- So does what a copy of chunk `k` into the communication buffer leaves. -/
theorem copied_eq (k : Fin 4) (fd g : Blk F) :
    ∀ i ∈ (rows k).set, (sM.access (rows k)).write (Elt F) fd (xM.view.readAt (Elt F) (rows k).toLoadRect g) Finset.univ i = g i :=
  fun i hi => by
  rw [show xM.view.readAt (Elt F) (rows k).toLoadRect g = (sM.access (rows k)).read (Elt F) g from rfl, View.write_read_eq_piecewise,
    View.setOn_univ, show (sM.access (rows k)).set = (rows k).set from View.set_slice_whole _ _]
  exact Finset.piecewise_eq_of_mem _ _ _ hi

/-! ## The schedule -/

/-- What each semaphore's round hands to the device that waits (the list at the head of this file). -/
def readyPay (b : Bool) (c : Dev nD) : sProp 𝕄 := iprop(∃ f, outAll (peer b c) f)
def sendPay (c : Dev nD) (k : Fin 4) : sProp 𝕄 := commPts c k (xstg m c)
def recvPay (b : Bool) (c : Dev nD) (k : Fin 4) : sProp 𝕄 := outPts c k (xstg m (peer b c))

/-- Payload `j` of device `c`. -/
def pay (b : Bool) (c : Dev nD) (j : Fin 9) : sProp 𝕄 :=
  if j = 0 then readyPay b c else if j.val < 5 then sendPay m c (Fin.ofNat 4 (j.val - 1)) else recvPay m b c (Fin.ofNat 4 (j.val - 5))

omit [FloatOps F] in
instance pay_storable (b : Bool) (c : Dev nD) (j : Fin 9) : BI.Storable (upEmb : UEmb _ 𝕄) (pay m b c j) := by
  unfold pay readyPay sendPay recvPay
  (repeat' split) <;> infer_instance

omit [FloatOps F] in
theorem pay_bar (b : Bool) (c : Dev nD) : (pay m b c 0 : sProp 𝕄) = readyPay b c := rfl
omit [FloatOps F] in
theorem pay_send (b : Bool) (c : Dev nD) (k : Fin 4) : (pay m b c (jS k) : sProp 𝕄) = sendPay m c k := by fin_cases k <;> rfl
omit [FloatOps F] in
theorem pay_recv (b : Bool) (c : Dev nD) (k : Fin 4) : (pay m b c (jR k) : sProp 𝕄) = recvPay m b c k := by fin_cases k <;> rfl

/-- The number of a semaphore among a device's nine, where it is one of them. -/
def num (s : SemLoc sig) : Option (Fin 9) := match s with
  | .reg _ => some 0
  | .dma q => if h : 3 ≤ q.val then some ⟨q.val - 2, by have : q.val < 11 := q.isLt; omega⟩ else none

theorem num_csem (j : Fin 9) : num (csem j) = some j := by revert j; decide

theorem num_stage {q : DmaSem sig} (hq : q.val < 3) : num (.dma q) = none := by
  unfold num; exact dif_neg (by omega)

def sched (b : Bool) : Rounds.Schedule (GSem nD τ sig) Unit 𝕄 where
  duties g r := if r = 0 ∧ g.1.2 = .tc ∧ num g.2 ≠ none then {()} else ∅
  unitless _ := False
  amount g _ _ := match num g.2 with | some j => amt j | none => 1
  payload g _ _ := match num g.2 with | some j => pay m b g.1.1 j | none => iprop(emp)
  amount_pos g _ _ _ := by
    cases num g.2 with
    | none => exact Nat.one_pos
    | some j => unfold amt; dsimp only; split; exacts [Nat.one_pos, N_pos]

instance sched_storable (b : Bool) (g : GSem nD τ sig) (r : ℕ) (d : Unit) : BI.Storable (upEmb : UEmb _ 𝕄) ((sched (F := F) m b).payload g r d) := by
  show BI.Storable upEmb (match num g.2 with | some j => pay m b g.1.1 j | none => iprop(emp))
  split <;> infer_instance

section Sched
variable (b : Bool) (c : Dev nD) (j : Fin 9)

omit [FloatOps F] in
theorem duties_eq : (sched (F := F) m b).duties (kcell (c, j)) 0 = {()} := by
  dsimp only [sched]; rw [num_csem]; exact if_pos ⟨rfl, rfl, by simp⟩
omit [FloatOps F] in
theorem duties_later (g : GSem nD τ sig) : ∀ r, 1 ≤ r → (sched (F := F) m b).duties g r = ∅ :=
  fun r hr => by dsimp only [sched]; exact if_neg fun h => by omega
omit [FloatOps F] in
theorem amount_eq (u : Unit) : (sched (F := F) m b).amount (kcell (c, j)) 0 u = amt j := by dsimp only [sched]; rw [num_csem]
omit [FloatOps F] in
theorem payload_eq (u : Unit) : (sched (F := F) m b).payload (kcell (c, j)) 0 u = pay m b c j := by dsimp only [sched]; rw [num_csem]
omit [FloatOps F] in
theorem expect_eq : (sched (F := F) m b).expect (kcell (c, j)) 0 = amt j := by
  unfold Schedule.expect Schedule.amountOf; rw [duties_eq, Finset.sum_singleton, amount_eq]
omit [FloatOps F] in
theorem rest_eq : bigSep ((sched (F := F) m b).duties (kcell (c, j)) 0 \ ∅) (fun u => (sched (F := F) m b).payload (kcell (c, j)) 0 u) = pay m b c j := by
  rw [Finset.sdiff_empty, duties_eq, bigSep_singleton, payload_eq]

end Sched

/-! ## What a device owes; the levels -/

/-- The landings that device `c` still owes its peer when the last `n` chunks have not been sent. -/
def debt (b : Bool) (c : Dev nD) : ℕ → CellTallies nD τ sig Unit
  | 0 => 0
  | n + 1 => debt b c n + tallyAt (kcell (peer b c, jR (Fin.ofNat 4 (3 - n)))) () N
/-- What it owes at launch: all four landings and the barrier signal. -/
def O₀ (b : Bool) (c : Dev nD) : CellTallies nD τ sig Unit := debt b c 4 + tallyAt (kcell (peer b c, 0)) () 1

/-- Levels: a staging or send semaphore 0, the barrier 1, a receive semaphore 2. -/
def lv (g : GSem nD τ sig) (_ : Unit) : ℕ := match num g.2 with
  | some j => if j.val = 0 then 1 else if j.val < 5 then 0 else 2
  | none => 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (kcell (c, 0)) () = 1 := rfl
theorem lv_recv (c : Dev nD) (k : Fin 4) : lv (kcell (c, jR k)) () = 2 := by
  unfold lv; rw [num_csem]; fin_cases k <;> rfl

theorem tallyAt_pos {g g' : GSem nD τ sig} {n : ℕ} {u : Unit} (h : 0 < (tallyAt g () n : CellTallies nD τ sig Unit) g' u) : g' = g := by
  by_contra hn
  rw [tallyAt_apply, if_neg (fun h' => hn h'.1)] at h
  exact Nat.lt_irrefl 0 h

theorem debt_pos {b : Bool} {c : Dev nD} {g : GSem nD τ sig} {u : Unit} : ∀ n, 0 < debt b c n g u → ∃ k, g = kcell (peer b c, jR k)
  | 0, h => absurd h (Nat.lt_irrefl 0)
  | n + 1, h => by
    unfold debt at h
    rw [Pi.add_apply, Finsupp.add_apply] at h
    rcases Nat.add_pos_iff_pos_or_pos.mp h with h | h
    · exact debt_pos n h
    · exact ⟨_, tallyAt_pos h⟩

theorem O₀_pos {b : Bool} {c : Dev nD} {g : GSem nD τ sig} {u : Unit} (h : 0 < O₀ b c g u) :
    (∃ k, g = kcell (peer b c, jR k)) ∨ g = kcell (peer b c, 0) := by
  unfold O₀ at h
  rw [Pi.add_apply, Finsupp.add_apply] at h
  rcases Nat.add_pos_iff_pos_or_pos.mp h with h | h
  · exact .inl (debt_pos 4 h)
  · exact .inr (tallyAt_pos h)

omit [FloatOps F] in
/-- A wait below every cell still owed to is allowed. -/
theorem mayWait_of_lt (c : Dev nD) (sm : SemLoc sig) (l : ℕ) (O : CellTallies nD τ sig Unit) (hl : lv ((c : Thread nD τ), sm) () ≤ l)
    (hO : ∀ g u, 0 < O g u → g.1.2 = .tc ∧ l < lv g ()) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

omit [FloatOps F] in
theorem mayWait_bar (b : Bool) (c : Dev nD) : (levAts L lv : sProp 𝕄) ⊢ MayWait (c : Thread nD τ) (csem 0) () (debt b c 4) :=
  mayWait_of_lt c _ 1 _ (le_of_eq (lv_bar c)) fun g u hg => by
    obtain ⟨k, rfl⟩ := debt_pos 4 hg
    exact ⟨rfl, by rw [lv_recv]; exact Nat.lt_succ_self 1⟩

omit [FloatOps F] in
theorem mayWait_stage (b : Bool) (c : Dev nD) (q : DmaSem sig) (hq : q.val < 3) (O : CellTallies nD τ sig Unit) (hO : O = O₀ b c ∨ O = 0) :
    (levAts L lv : sProp 𝕄) ⊢ MayWait (c : Thread nD τ) (.dma q) () O := by
  refine mayWait_of_lt c _ 0 _ (le_of_eq (by unfold lv; rw [show num ((c : Thread nD τ), SemLoc.dma q).2 = none from num_stage hq])) fun g u hg => ?_
  rcases hO with rfl | rfl
  · rcases O₀_pos hg with ⟨k, rfl⟩ | rfl
    · exact ⟨rfl, by rw [lv_recv]; exact Nat.succ_pos 1⟩
    · exact ⟨rfl, by rw [lv_bar]; exact Nat.one_pos⟩
  · exact absurd hg (Nat.lt_irrefl 0)

end Cert.KernelIdeal.Exchange

end
-- ==== Proof.KernelIdeal.Body.lean ====
/-
# One device's run of the kernel

Rules for the five things the body does (read the table, signal, wait, copy a chunk, send a chunk), each stated once
for every chunk, and the body's execution from them. A device enters holding the staged table and blocks and the ghost
state of its exchange; it leaves with the result buffer holding the peer's block and its nine semaphores at zero.
-/
module

public import proofs.«01_k».proof.Proof.KernelIdeal.Protocol
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (b : Bool)

/-- What is asked of the launch memory: every device's table is the one that `b` names. -/
def TableIs : Prop := ∀ (c : Dev nD) (i : S2.Idx), (m ((c : Thread nD τ).loc main_arg1) : IVec S2 32) i = tab b (i 0).val

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Ghost state of a device -/

/-- Known to everyone: every cell's invariant, and that its round has been reached. -/
def records (K : Dev nD × Fin 9 → ℕ) : sProp 𝕄 :=
  iprop((bigSep Finset.univ fun cj : Dev nD × Fin 9 => cellInv ER (sched m b) (K cj) (kcell cj))
    ∗ bigSep Finset.univ fun cj : Dev nD × Fin 9 => reached ER (kcell cj) 0)

instance records_persistent (K : Dev nD × Fin 9 → ℕ) : BI.Persistent (records (F := F) m b K) := by unfold records; infer_instance

omit [FloatOps F] in
theorem records_inv (K : Dev nD × Fin 9 → ℕ) (cj : Dev nD × Fin 9) : (records m b K : sProp 𝕄) ⊢ cellInv ER (sched m b) (K cj) (kcell cj) := by
  unfold records; exact (sep_elim_left).trans (bigSep_elim (Finset.mem_univ cj))
omit [FloatOps F] in
theorem records_reached (K : Dev nD × Fin 9 → ℕ) (cj : Dev nD × Fin 9) : (records m b K : sProp 𝕄) ⊢ reached ER (kcell cj) 0 := by
  unfold records; exact (sep_elim_right).trans (bigSep_elim (Finset.mem_univ cj))

/-- Whose semaphore `j` device `c` credits: its own send semaphores, the peer's others. -/
def payDev (c : Dev nD) (j : Fin 9) : Dev nD := if j.val = 0 ∨ 5 ≤ j.val then peer b c else c

theorem payDev_bar (c : Dev nD) : payDev b c 0 = peer b c := rfl
theorem payDev_send (c : Dev nD) (k : Fin 4) : payDev b c (jS k) = c := if_neg (by simp only [jS]; omega)
theorem payDev_recv (c : Dev nD) (k : Fin 4) : payDev b c (jR k) = peer b c := if_pos (by simp only [jR]; omega)

/-- The position on one's own cell `j`, and the token of the credit one gives on `j`. -/
def posAt (c : Dev nD) (j : Fin 9) : sProp 𝕄 := atPos ER (kcell (c, j)) 0 ∅ 0
def tokAt (c : Dev nD) (j : Fin 9) : sProp 𝕄 := dutyTok ER (kcell (payDev b c j, j)) 0 ()
/-- The right to wait for what the others owe on one's own cell `j`. -/
def credAt (c : Dev nD) (j : Fin 9) : sProp 𝕄 := cred (tallyAt (kcell (c, j)) () (due j))

/-- All three, for one chunk: -/
def chunkStart (c : Dev nD) (k : Fin 4) : sProp 𝕄 :=
  iprop(posAt c (jS k) ∗ posAt c (jR k) ∗ tokAt b c (jS k) ∗ tokAt b c (jR k) ∗ credAt c (jR k))

/-- A device's part of the ghost state, -/
def ghost (K : Dev nD × Fin 9 → ℕ) (c : Dev nD) : sProp 𝕄 :=
  iprop(records m b K ∗ (posAt c 0 ∗ tokAt b c 0 ∗ credAt c 0) ∗ bigSep Finset.univ fun k : Fin 4 => chunkStart b c k)

/-- what it starts from, -/
def start (c : Dev nD) : sProp 𝕄 := iprop((∃ K, ghost m b K c) ∗ levAts L lv)

/-- its semaphores at the end, -/
def zeros (c : Dev nD) : sProp 𝕄 :=
  iprop(semVal (kcell (c, 0)) 0 ∗ bigSep Finset.univ fun k : Fin 4 => iprop(semVal (kcell (c, jS k)) 0 ∗ semVal (kcell (c, jR k)) 0))

/-- and the invariants before and after the body, beside the staged buffers. -/
def Φ₀ (c : Dev nD) : sProp 𝕄 := iprop(start m b c ∗ ∃ f, commAll c f)
def Φ₁ (c : Dev nD) : sProp 𝕄 := iprop(commAll c (xstg m c) ∗ zeros c)

/-- What a device owes, whatever waits it has on record. -/
def owing (c : Dev nD) (O : CellTallies nD τ sig Unit) : sProp 𝕄 := iprop(∃ W, owes (c : Thread nD τ) O W)

/-! ## Rules -/

section Rules

variable {m b} {K : Dev nD × Fin 9 → ℕ} {c : Dev nD}

/-- The staged table. -/
def tabPts (m : (ℓ : Loc nD τ sig) → Buf (Elt F) ℓ) (c : Dev nD) : sProp 𝕄 := ((c : Thread nD τ).loc cc0_stg0_0) ↦{fullShare} tstg m c
/-- The staged block. -/
def blkPts (m : (ℓ : Loc nD τ sig) → Buf (Elt F) ℓ) (c : Dev nD) : sProp 𝕄 := ((c : Thread nD τ).loc cc0_stg1_0) ↦{fullShare} xstg m c

omit [FloatOps F] in
/-- The word that device `c` reads of its staged table. -/
theorem read_tab (hT : TableIs m b) (c : Dev nD) :
    (tM : Memref sig .tc .smem S2 .i32).view.readAt (Elt F) (Rect.unit (s := S2) (k0_off1 c) S1.size (k0_off1_inb c)).toLoadRect (tstg m c)
      = fun _ => tabAt b c := by
  funext i
  show m ((c : Thread nD τ).loc main_arg1) _ = _
  refine (hT c _).trans (congrArg (tab b) ?_)
  have hi : i = fun a => ⟨0, by fin_cases a; exact Nat.one_pos⟩ := funext fun a => Fin.ext (by
    fin_cases a; exact Nat.lt_one_iff.mp (i 0).isLt)
  subst hi
  fin_cases c <;> rfl

theorem wp_table {α : Type} {Q : α → sProp 𝕄} (hT : TableIs m b) {hl} {k : (S1.Idx → Elt F .i32) → Prog (TpuEff nD τ sig (Elt F) Λ₀ .tc) α} :
    (tabPts m c : sProp 𝕄) ⊢ iprop((tabPts m c -∗ wpc c (k fun _ => tabAt b c) Q)
      -∗ wpc c (.op (.load (tM : Memref sig .tc .smem S2 .i32) (Rect.unit (s := S2) (k0_off1 c) S1.size (k0_off1_inb c)).toLoadRect hl) k) Q) := by
  unfold tabPts
  iintro Ht Hk
  iapply (wp_load 𝒱₀ (c : Thread nD τ) none Set.univ (m := tM) (Finset.subset_univ _)) $$ Ht; iintro Ht
  rw [read_tab hT c]
  iapply Hk; iexact Ht

omit [FloatOps F] in
/-- A device's result buffer, whatever it holds, is what its peer's barrier hands over. -/
theorem ready_intro (c : Dev nD) (f : Blk F) : (outAll c f : sProp 𝕄) ⊢ (sched m b).payload (kcell (peer b c, 0)) 0 () := by
  rw [payload_eq, pay_bar]; unfold readyPay; rw [peer_peer]
  iintro H; iexists f; iexact H

/-- The signal to the peer, which hands over the whole result buffer. -/
theorem wp_signal_peer {α : Type} {Q : α → sProp 𝕄} {n : Dev nD} (hn : n.val = (peer b c).val) {s : Sem sig} (hs : s = barS) {f : Blk F}
    {k : PUnit → Prog (TpuEff nD τ sig (Elt F) Λ₀ .tc) α} :
    iprop(records m b K ∗ owing c (O₀ b c) ∗ tokAt b c 0 ∗ outAll c f)
      ⊢ iprop((owing c (debt b c 4) -∗ wpc c (k ⟨⟩) Q) -∗ wpc c (.op (.semSignal (Dev.tc n) s (1#32 : BitVec 32).toNat) k) Q) := by
  obtain rfl : n = peer b c := Fin.ext hn
  subst hs
  unfold owing tokAt
  iintro ⟨#HR, ⟨%W, HO⟩, Ht, Hout⟩ Hk
  iapply (Rounds.wp_signal 𝒱₀ ER (sched m b) (c : Thread nD τ) none (dst := (peer b c : Thread nD τ)) (κ := K (peer b c, 0)) (r := 0) (d := ())
      ((duties_eq m b (peer b c) 0).symm ▸ Finset.mem_singleton_self _) (k' := (1#32 : BitVec 32).toNat) ((amount_eq m b (peer b c) 0 ()).trans rfl) ()
      (O₀ := O₀ b c) (debt b c 4) rfl)
    $$ [HO Ht Hout]
  · isplitr; · iapply (records_inv m b K (peer b c, 0)); iexact HR
    isplitl [HO]; · iexact HO
    isplitl [Ht]; · iexact Ht
    isplitl [Hout]
    · rw [show ((peer b c : Thread nD τ), SemLoc.reg barS) = kcell (peer b c, 0) from rfl]
      iapply (ready_intro (m := m) (b := b) c f); iexact Hout
    · iapply (records_reached m b K (peer b c, 0)); iexact HR
  iintro HO
  iapply Hk
  iexists W; iexact HO

/-- A wait for the one round of the device's own cell `j`, of which nothing is left to come: it hands over the payload
    and the cell at zero. -/
theorem wp_wait_own {α : Type} {Q : α → sProp 𝕄} (j : Fin 9) {w : TpuEff nD τ sig (Elt F) Λ₀ .tc PUnit} {O : CellTallies nD τ sig Unit}
    (hw : ∀ P : PUnit → sProp 𝕄, wpE (defs₀ (F := F)) 𝒱₀ (c : Thread nD τ) none Set.univ w P = waitSpec (c : Thread nD τ) Set.univ (csem j) (amt j) P)
    {k : PUnit → Prog (TpuEff nD τ sig (Elt F) Λ₀ .tc) α} :
    iprop(records m b K ∗ cred (tallyAt (kcell (c, j)) () (amt j)) ∗ owing c O ∗ MayWait (c : Thread nD τ) (csem j) () O ∗ posAt c j)
      ⊢ iprop(((owing c O ∗ semVal (kcell (c, j)) 0 ∗ pay m b c j) -∗ wpc c (k ⟨⟩) Q) -∗ wpc c (.op w k) Q) := by
  unfold owing posAt
  iintro ⟨#HR, Hc, ⟨%W, HO⟩, HM, Hat⟩ Hk
  iapply (Rounds.wp_wait_rest_token 𝒱₀ ER (sched m b) (c : Thread nD τ) none (κ := K (c, j)) hw (Set.mem_univ _) () (O := O) (W := W) (R := 0) (m := 0) (T := ∅)
      (by rw [Nat.zero_add]; exact (expect_eq m b c j).symm)) $$ [Hc HO HM Hat]
  · isplitr; · iapply (records_inv m b K (c, j)); iexact HR
    isplitl [Hc]; · iexact Hc
    isplitl [HO]; · iexact HO
    isplitl [HM]; · iexact HM
    iexact Hat
  iintro ⟨HO, Hat, -, Hpay⟩
  ihave Hp := (Entails.of_eq (rest_eq m b c j)) $$ Hpay
  imod (Rounds.cell_close ER (sched m b) (Set.mem_univ (K (c, j))) (fun h => h) (R := 0 + 1) (duties_later m b (kcell (c, j)))) $$ [Hat] with Hz
  · isplitr; · iapply (records_inv m b K (c, j)); iexact HR
    iexact Hat
  iapply Hk
  isplitl [HO]; · iexists _; iexact HO
  isplitl [Hz] <;> iassumption

/-- The wait for the peer's signal: the peer's result buffer comes with it. -/
theorem wp_wait_ready {α : Type} {Q : α → sProp 𝕄} {s : Sem sig} (hs : s = barS) {k : PUnit → Prog (TpuEff nD τ sig (Elt F) Λ₀ .tc) α} :
    iprop(records m b K ∗ levAts L lv ∗ credAt c 0 ∗ owing c (debt b c 4) ∗ posAt c 0)
      ⊢ iprop(((owing c (debt b c 4) ∗ semVal (kcell (c, 0)) 0 ∗ ∃ f, outAll (peer b c) f) -∗ wpc c (k ⟨⟩) Q)
          -∗ wpc c (.op (.semWait s (1#32 : BitVec 32).toNat) k) Q) := by
  subst hs
  unfold credAt
  iintro ⟨#HR, #Hlev, Hc, HO, Hat⟩ Hk
  iapply (wp_wait_own (m := m) (b := b) (K := K) (c := c) 0 (fun P => wpE_semWait_eq 𝒱₀ (c : Thread nD τ) none Set.univ P)) $$ [Hc HO Hat]
  · isplitr; · iexact HR
    isplitl [Hc]; · iexact Hc
    isplitl [HO]; · iexact HO
    isplitr; · iapply (mayWait_bar b c); iexact Hlev
    iexact Hat
  rw [pay_bar]; unfold readyPay
  iexact Hk

/-- The two waits for chunk `k`, its transfer's end on this side and the landing of the peer's, owing nothing more. -/
theorem wp_wait_chunk {α : Type} {Q : α → sProp 𝕄} (k : Fin 4) {qs qr : DmaSem sig} (hs : qs = sendS k) (hr : qr = recvS k)
    {s₁ d₁ s₂ d₂ : Memref sig .tc .vmem S1x128x512 .bf16} (hd₁ : d₁ = sV k) (hd₂ : d₂ = oV k) {w₁ w₂ w₃ w₄}
    {kt : PUnit → Prog (TpuEff nD τ sig (Elt F) Λ₀ .tc) α} :
    iprop(records m b K ∗ cred (tallyAt (kcell (c, jS k)) () N) ∗ credAt c (jR k) ∗ owing c 0 ∗ posAt c (jS k) ∗ posAt c (jR k))
      ⊢ iprop(((owing c 0 ∗ (semVal (kcell (c, jS k)) 0 ∗ semVal (kcell (c, jR k)) 0) ∗ commPts c k (xstg m c) ∗ outPts c k (xstg m (peer b c)))
            -∗ wpc c (kt ⟨⟩) Q)
          -∗ wpc c (.op (.waitDma2 qs s₁ d₁ w₁ w₂) fun _ => .op (.waitDma2 qr s₂ d₂ w₃ w₄) kt) Q) := by
  subst hs hr hd₁ hd₂
  unfold credAt
  rw [due_recv]
  iintro ⟨#HR, HcS, HcR, HO, HaS, HaR⟩ Hk
  iapply (wp_wait_own (m := m) (b := b) (K := K) (c := c) (jS k) (O := 0) (fun P => by
      rw [csem_send, amt_send]; exact wpE_waitDma2_eq 𝒱₀ (c : Thread nD τ) none Set.univ P)) $$ [HcS HO HaS]
  · isplitr; · iexact HR
    isplitl [HcS]; · rw [amt_send]; iexact HcS
    isplitl [HO]; · iexact HO
    isplitr; · rw [MayWait_zero]; iempintro
    iexact HaS
  iintro ⟨HO, HzS, HpS⟩
  iapply (wp_wait_own (m := m) (b := b) (K := K) (c := c) (jR k) (O := 0) (fun P => by
      rw [csem_recv, amt_recv]; exact wpE_waitDma2_eq 𝒱₀ (c : Thread nD τ) none Set.univ P)) $$ [HcR HO HaR]
  · isplitr; · iexact HR
    isplitl [HcR]; · rw [amt_recv]; iexact HcR
    isplitl [HO]; · iexact HO
    isplitr; · rw [MayWait_zero]; iempintro
    iexact HaR
  iintro ⟨HO, HzR, HpR⟩
  iapply Hk
  ihave HpS := (Entails.of_eq (pay_send m b c k)) $$ HpS
  ihave HpR := (Entails.of_eq (pay_recv m b c k)) $$ HpR
  unfold sendPay recvPay
  isplitl [HO]; · iexact HO
  isplitl [HzS HzR]; · isplitl [HzS] <;> iassumption
  isplitl [HpS] <;> iassumption

/-- The copy of chunk `k` into the communication buffer: a read of the block's rows, a read of the buffer's that is not
    used, the store. -/
theorem wp_copy {α : Type} {Q : α → sProp 𝕄} (k : Fin 4) {off : Fin 3 → ℕ} (ho : off = offs k) {inb} {pay : Vec F S1x128x512 .bf16 → FVec F S1x128x512 .bf16}
    (hp : ∀ v, pay v = v) {l₁ l₂ l₃ l₄} {f : Blk F} {kt : PUnit → Prog (TpuEff nD τ sig (Elt F) Λ₀ .tc) α} :
    iprop(blkPts m c ∗ commPts c k f)
      ⊢ iprop(((blkPts m c ∗ commPts c k (xstg m c)) -∗ wpc c (kt ⟨⟩) Q)
          -∗ wpc c (.op (.load xM (Rect.unit (s := S1x512x512) off S1x128x512.size inb).toLoadRect l₁) fun v =>
              .op (.load sM (Rect.unit (s := S1x512x512) off S1x128x512.size inb).toLoadRect l₂) fun _ =>
              .op (.store sM (Rect.unit (s := S1x512x512) off S1x128x512.size inb) (pay v) Finset.univ l₃ l₄) kt) Q) := by
  subst ho
  have hset : (sM.access (rows k)).set = (rows k).set := View.set_slice_whole _ _
  unfold blkPts
  iintro ⟨Hx, Hs⟩ Hk
  iapply (wp_load 𝒱₀ (c : Thread nD τ) none Set.univ (m := xM) (Finset.subset_univ _)) $$ Hx; iintro Hx
  unfold commPts
  iapply (wp_load_rect 𝒱₀ (c : Thread nD τ) none Set.univ (m := sM) (r := rows k) (Finset.subset_of_eq hset)) $$ Hs; iintro Hs
  iapply (wp_store 𝒱₀ (c : Thread nD τ) none Set.univ (m := sM) (r := rows k) (Mk := Finset.univ)
    (by rw [View.setOn_univ]; exact Finset.subset_of_eq hset)) $$ Hs; iintro Hs
  rw [hp]
  iapply Hk
  isplitl [Hx]; · iexact Hx
  iapply (Entails.of_eq (pointsTo_congr (copied_eq k f (xstg m c)))); iexact Hs

/-- The transfer of chunk `k` to the peer, which pays the landing owed on the peer's receive semaphore `k` and, when
    the source has been read, credits the device's own send semaphore `k`. -/
theorem wp_send_chunk {α : Type} {Q : α → sProp 𝕄} (k : Fin 4) (r : ℕ) (hk : r + k.val = 3) {n : Dev nD} (hn : n.val = (peer b c).val) {qs qr : DmaSem sig} (hs : qs = sendS k)
    (hr : qr = recvS k) {src : Memref sig .tc .vmem S1x128x512 .bf16} {dst : Memref sig (Dev.tc n : Thread nD τ).2.kind .vmem S1x128x512 .bf16}
    (hsrc : src = sV k) (hdst : dst = oV k) {h₁ h₂ h₃ h₄} {fd : Blk F} {kt : PUnit → Prog (TpuEff nD τ sig (Elt F) Λ₀ .tc) α} :
    iprop(records m b K ∗ commPts c k (xstg m c) ∗ outPts (peer b c) k fd ∗ owing c (debt b c (r + 1)) ∗ tokAt b c (jS k) ∗ tokAt b c (jR k))
      ⊢ iprop(((cred (tallyAt (kcell (c, jS k)) () N) ∗ owing c (debt b c r)) -∗ wpc c (kt ⟨⟩) Q)
          -∗ wpc c (.op (.enqueueDma src (.remote (Dev.tc n : Thread nD τ) dst (.dma qs) h₁) (.dma qr) h₂ h₃ h₄) kt) Q) := by
  obtain rfl : n = peer b c := Fin.ext hn
  subst hs hr hsrc hdst
  have hd : debt b c (r + 1) = debt b c r + tallyAt (kcell (peer b c, jR k)) () N := by
    rw [debt, show (Fin.ofNat 4 (3 - r) : Fin 4) = k from Fin.ext (by show (3 - r) % 4 = k.val; omega)]
  have hcS : ((c : Thread nD τ), SemLoc.dma (sendS k)) = kcell (c, jS k) := congrArg (Prod.mk (c : Thread nD τ)) (csem_send k).symm
  have hcR : ((peer b c : Thread nD τ), SemLoc.dma (recvS k)) = kcell (peer b c, jR k) := congrArg (Prod.mk (peer b c : Thread nD τ)) (csem_recv k).symm
  unfold owing tokAt
  rw [payDev_send, payDev_recv, commPts_eq, outPts_eq]
  iintro ⟨#HR, Hs, Ho, ⟨%W, HO⟩, HtS, HtR⟩ Hk
  iapply (Rounds.wp_send_pointsTo 𝒱₀ ER (sched m b) (c : Thread nD τ) none (κ₁ := K (c, jS k)) (κ₂ := K (peer b c, jR k))
    (r₁ := 0) (r₂ := 0) (d₁ := ()) (d₂ := ()) (fd := fd)
    (by rw [hcS, duties_eq m b c (jS k)]; exact Finset.mem_singleton_self _)
    (by rw [hcR, duties_eq m b (peer b c) (jR k)]; exact Finset.mem_singleton_self _)
    () () N rfl (by rw [hcS, amount_eq m b c (jS k), amt_send]) (by rw [hcR, amount_eq m b (peer b c) (jR k), amt_recv])
    (O₀ := debt b c (r + 1)) (debt b c r) (by rw [hcR]; exact hd) (W := W)
    (by rw [hcS, payload_eq m b c (jS k), pay_send]; unfold sendPay; rw [commPts_eq])
    (by
      rw [hcR, payload_eq m b (peer b c) (jR k), pay_recv]; unfold recvPay
      rw [peer_peer, ← outPts_eq]
      exact Entails.of_eq (outPts_congr (sent_eq k fd (xstg m c))))) $$ [Hs Ho HO HtS HtR]
  · rw [hcS, hcR]
    isplitr; · iapply (records_inv m b K (c, jS k)); iexact HR
    isplitr; · iapply (records_inv m b K (peer b c, jR k)); iexact HR
    isplitl [Hs]; · iexact Hs
    isplitl [Ho]; · iexact Ho
    isplitl [HO]; · iexact HO
    isplitl [HtS]; · iexact HtS
    isplitr; · iapply (records_reached m b K (c, jS k)); iexact HR
    isplitl [HtR]; · iexact HtR
    iapply (records_reached m b K (peer b c, jR k)); iexact HR
  iintro ⟨Hc, HO⟩
  iapply Hk
  isplitl [Hc]; · rw [hcS]; iexact Hc
  iexists W; iexact HO

end Rules

/-! ## The pipeline's proof data -/

theorem cfg0_N : cfg0.N = 1 := by decide
/-- The one point of the grid. -/
def t₀ : Fin cfg0.N := ⟨0, by rw [cfg0_N]; decide⟩
theorem fin_N (t : Fin cfg0.N) : t = t₀ := by obtain ⟨t, ht⟩ := t; have := cfg0_N; exact Fin.ext (by simp only [t₀]; omega)

/-- Windows 0 and 1 stay as staged, window 2 ends at the peer's block. -/
def dats (_ : Fin 1) (c : Dev nD) : Dat τ (Elt F) Unit ℕ UU ℕ cfg0 c where
  A w := m ((cfg0.win w).arr.view.loc (c : Thread nD τ))
  after w _ := match w with
    | ⟨0, _⟩ => tstg m c
    | ⟨1, _⟩ => xstg m c
    | ⟨2, _⟩ => xstg m (peer b c)
  Φ t := match t with
    | ⟨0, _⟩ => Φ₀ m b c
    | ⟨_ + 1, _⟩ => Φ₁ m c
  q _ := fullShare
  owed t := match t with
    | ⟨0, _⟩ => O₀ b c
    | ⟨_ + 1, _⟩ => 0

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
/-- Holding a whole staging buffer at given contents. -/
theorem owns_whole (c : Dev nD) (r : Ref sig .tc) (X : r.ty.Contents (Elt F)) :
    (owns (Ix := Unit) (Name := ℕ) (U := UU) (Lvl := ℕ) (c : Thread nD τ) (Memref.whole r) fullShare X : sProp 𝕄)
      = (((c : Thread nD τ).loc r) ↦{fullShare} X) := by
  unfold owns
  simp only [Memref.view_whole, View.read_whole, View.set_whole]
  have h₁ : iprop(∃ f : Buf (Elt F) ((c : Thread nD τ).loc r), ⌜f = X⌝ ∗ (((c : Thread nD τ).loc r) ↦{fullShare} f)) ⊢ (((c : Thread nD τ).loc r) ↦{fullShare} X : sProp 𝕄) := by
    iintro ⟨%f, %hf, H⟩; subst hf; iexact H
  have h₂ : (((c : Thread nD τ).loc r) ↦{fullShare} X : sProp 𝕄) ⊢ iprop(∃ f : Buf (Elt F) ((c : Thread nD τ).loc r), ⌜f = X⌝ ∗ (((c : Thread nD τ).loc r) ↦{fullShare} f)) := by
    iintro H; iexists X; isplitr; · (ipureintro; rfl)
    iexact H
  exact h₁.antisymm h₂

/-! ## The body -/

section Body

variable (K : Dev nD × Fin 9 → ℕ)

/-- What the body starts from, the staging buffers' contents spelt out, -/
def bodyPre (c : Dev nD) : sProp 𝕄 :=
  iprop((ghost m b K c ∗ levAts L lv ∗ ∃ f, commAll c f) ∗ owing c (O₀ b c) ∗ tabPts m c ∗ blkPts m c ∗ ∃ f, outAll c f)
/-- and what it ends with. -/
def bodyPost (c : Dev nD) : sProp 𝕄 :=
  iprop(Φ₁ m c ∗ owing c 0 ∗ tabPts m c ∗ blkPts m c ∗ outAll c (xstg m (peer b c)))

/-- What the four copies store is what they read, reshaped there and back. -/
theorem pay1_eq (v : Vec F S1x128x512 .bf16) : k0_pay1 v = v := by unfold k0_pay1; exact shapeCast_shapeCast v _ _
theorem pay2_eq (v : Vec F S1x128x512 .bf16) : k0_pay2 v = v := by unfold k0_pay2; exact shapeCast_shapeCast v _ _
theorem pay3_eq (v : Vec F S1x128x512 .bf16) : k0_pay3 v = v := by unfold k0_pay3; exact shapeCast_shapeCast v _ _
theorem pay4_eq (v : Vec F S1x128x512 .bf16) : k0_pay4 v = v := by unfold k0_pay4; exact shapeCast_shapeCast v _ _

set_option maxHeartbeats 4000000 in
/-- The body, one rule per step in program order. -/
theorem sound_body (hT : TableIs m b) (c : Dev nD) (Kt : PUnit → sProp 𝕄) :
    iprop(bodyPre m b K c ∗ (bodyPost m b c -∗ Kt ⟨⟩))
      ⊢ wpc c (cc0_body tM (Memref.isWhole_whole _) xM (Memref.isWhole_whole _) oM (Memref.isWhole_whole _) sM (Memref.isWhole_whole _)
          cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, smemLoad, smemLoadElt, Prog.lift, Prog.bind_op, Prog.bind_ret, Prog.pure_eq_ret, Prog.bind_assoc, wp_deviceId]
  unfold bodyPre ghost
  rw [bigSep_fin4]
  unfold chunkStart
  iintro ⟨⟨⟨⟨#HR, ⟨HaB, HtB, HcB⟩, ⟨Ha0, Hb0, Hs0, Ht0, Hc0⟩, ⟨Ha1, Hb1, Hs1, Ht1, Hc1⟩, ⟨Ha2, Hb2, Hs2, Ht2, Hc2⟩, ⟨Ha3, Hb3, Hs3, Ht3, Hc3⟩⟩, #Hlev, ⟨%f, Hcomm⟩⟩,
    HO, Ht, Hx, ⟨%fi, Hout⟩⟩, Hk⟩
  ihave Hcomm := (Entails.of_eq (commAll_eq c f)) $$ Hcomm
  icases Hcomm with ⟨Hm0, Hm1, Hm2, Hm3⟩
  -- the table's word, and what the body assumes of it
  iapply (wp_table (b := b) hT) $$ Ht; iintro Ht
  simp only [wp_assume_of _ _ _ _ (d := k0_chk1.dec _ _) (chk_tab b c)]
  iapply (wp_signal_peer (b := b) (K := K) (dev1_tab b c) rfl) $$ [HO HtB Hout]
  · isplitr; · iexact HR
    isplitl [HO]; · iexact HO
    isplitl [HtB] <;> iassumption
  iintro HO
  -- chunk 0 copied, then the wait for the peer's buffer
  iapply (wp_copy (m := m) (c := c) 0 rfl (pay := k0_pay1) pay1_eq) $$ [Hx Hm0]
  · isplitl [Hx] <;> iassumption
  iintro ⟨Hx, Hm0⟩
  iapply (wp_wait_ready (m := m) (b := b) (K := K) rfl) $$ [HcB HO HaB]
  · isplitr; · iexact HR
    isplitr; · iexact Hlev
    isplitl [HcB]; · iexact HcB
    isplitl [HO] <;> iassumption
  iintro ⟨HO, HzB, ⟨%fo, Hout⟩⟩
  ihave Hout := (Entails.of_eq (outAll_eq (peer b c) fo)) $$ Hout
  icases Hout with ⟨Ho0, Ho1, Ho2, Ho3⟩
  -- each chunk sent, the next one copied meanwhile
  iapply (wp_send_chunk (m := m) (b := b) (K := K) 0 3 rfl (dev2_tab b c) rfl rfl rfl rfl (fd := fo)) $$ [Hm0 Ho0 HO Hs0 Ht0]
  · isplitr; · iexact HR
    isplitl [Hm0]; · iexact Hm0
    isplitl [Ho0]; · iexact Ho0
    isplitl [HO]; · iexact HO
    isplitl [Hs0] <;> iassumption
  iintro ⟨Hd0, HO⟩
  iapply (wp_copy (m := m) (c := c) 1 rfl (pay := k0_pay2) pay2_eq) $$ [Hx Hm1]
  · isplitl [Hx] <;> iassumption
  iintro ⟨Hx, Hm1⟩
  iapply (wp_send_chunk (m := m) (b := b) (K := K) 1 2 rfl (dev3_tab b c) rfl rfl rfl rfl (fd := fo)) $$ [Hm1 Ho1 HO Hs1 Ht1]
  · isplitr; · iexact HR
    isplitl [Hm1]; · iexact Hm1
    isplitl [Ho1]; · iexact Ho1
    isplitl [HO]; · iexact HO
    isplitl [Hs1] <;> iassumption
  iintro ⟨Hd1, HO⟩
  iapply (wp_copy (m := m) (c := c) 2 rfl (pay := k0_pay3) pay3_eq) $$ [Hx Hm2]
  · isplitl [Hx] <;> iassumption
  iintro ⟨Hx, Hm2⟩
  iapply (wp_send_chunk (m := m) (b := b) (K := K) 2 1 rfl (dev4_tab b c) rfl rfl rfl rfl (fd := fo)) $$ [Hm2 Ho2 HO Hs2 Ht2]
  · isplitr; · iexact HR
    isplitl [Hm2]; · iexact Hm2
    isplitl [Ho2]; · iexact Ho2
    isplitl [HO]; · iexact HO
    isplitl [Hs2] <;> iassumption
  iintro ⟨Hd2, HO⟩
  iapply (wp_copy (m := m) (c := c) 3 rfl (pay := k0_pay4) pay4_eq) $$ [Hx Hm3]
  · isplitl [Hx] <;> iassumption
  iintro ⟨Hx, Hm3⟩
  iapply (wp_send_chunk (m := m) (b := b) (K := K) 3 0 rfl (dev5_tab b c) rfl rfl rfl rfl (fd := fo)) $$ [Hm3 Ho3 HO Hs3 Ht3]
  · isplitr; · iexact HR
    isplitl [Hm3]; · iexact Hm3
    isplitl [Ho3]; · iexact Ho3
    isplitl [HO]; · iexact HO
    isplitl [Hs3] <;> iassumption
  iintro ⟨Hd3, HO⟩
  -- each chunk's two waits
  iapply (wp_wait_chunk (m := m) (b := b) (K := K) 0 rfl rfl rfl rfl) $$ [Hd0 Hc0 HO Ha0 Hb0]
  · isplitr; · iexact HR
    isplitl [Hd0]; · iexact Hd0
    isplitl [Hc0]; · iexact Hc0
    isplitl [HO]; · iexact HO
    isplitl [Ha0] <;> iassumption
  iintro ⟨HO, Hz0, Hm0, Ho0⟩
  iapply (wp_wait_chunk (m := m) (b := b) (K := K) 1 rfl rfl rfl rfl) $$ [Hd1 Hc1 HO Ha1 Hb1]
  · isplitr; · iexact HR
    isplitl [Hd1]; · iexact Hd1
    isplitl [Hc1]; · iexact Hc1
    isplitl [HO]; · iexact HO
    isplitl [Ha1] <;> iassumption
  iintro ⟨HO, Hz1, Hm1, Ho1⟩
  iapply (wp_wait_chunk (m := m) (b := b) (K := K) 2 rfl rfl rfl rfl) $$ [Hd2 Hc2 HO Ha2 Hb2]
  · isplitr; · iexact HR
    isplitl [Hd2]; · iexact Hd2
    isplitl [Hc2]; · iexact Hc2
    isplitl [HO]; · iexact HO
    isplitl [Ha2] <;> iassumption
  iintro ⟨HO, Hz2, Hm2, Ho2⟩
  iapply (wp_wait_chunk (m := m) (b := b) (K := K) 3 rfl rfl rfl rfl) $$ [Hd3 Hc3 HO Ha3 Hb3]
  · isplitr; · iexact HR
    isplitl [Hd3]; · iexact Hd3
    isplitl [Hc3]; · iexact Hc3
    isplitl [HO]; · iexact HO
    isplitl [Ha3] <;> iassumption
  iintro ⟨HO, Hz3, Hm3, Ho3⟩
  unfold wpc; rw [wp_ret]; imodintro
  iapply Hk
  unfold bodyPost Φ₁ zeros
  rw [commAll_eq, outAll_eq, bigSep_fin4]
  isplitl [Hm0 Hm1 Hm2 Hm3 HzB Hz0 Hz1 Hz2 Hz3]
  · isplitl [Hm0 Hm1 Hm2 Hm3]
    · isplitl [Hm0]; · iexact Hm0
      isplitl [Hm1]; · iexact Hm1
      isplitl [Hm2] <;> iassumption
    isplitl [HzB]; · iexact HzB
    isplitl [Hz0]; · iexact Hz0
    isplitl [Hz1]; · iexact Hz1
    isplitl [Hz2] <;> iassumption
  isplitl [HO]; · iexact HO
  isplitl [Ht]; · iexact Ht
  isplitl [Hx]; · iexact Hx
  isplitl [Ho0]; · iexact Ho0
  isplitl [Ho1]; · iexact Ho1
  isplitl [Ho2] <;> iassumption

/-- The staged contents before the body. -/
theorem before_tab (c : Dev nD) (d) : (dats m b 0 c).before (0 : Fin 3) t₀ d = tstg m c := by
  unfold Dat.before; rw [if_pos (fetch_0 t₀)]; rfl
theorem before_blk (c : Dev nD) (d) : (dats m b 0 c).before (1 : Fin 3) t₀ d = xstg m c := by
  unfold Dat.before; rw [if_pos (fetch_1 t₀)]; rfl

/-- The body's precondition as the pipeline states it. -/
def bodyPre' (c : Dev nD) : sProp 𝕄 :=
  iprop(Φ₀ m b c ∗ (dats m b 0 c).owesAt () t₀.castSucc
    ∗ (∃ d, ((c : Thread nD τ).loc cc0_stg0_0) ↦{fullShare} ((dats m b 0 c).before (0 : Fin 3) t₀ d))
    ∗ (∃ d, ((c : Thread nD τ).loc cc0_stg1_0) ↦{fullShare} ((dats m b 0 c).before (1 : Fin 3) t₀ d))
    ∗ (∃ d, ((c : Thread nD τ).loc cc0_stg2_0) ↦{fullShare} ((dats m b 0 c).before (2 : Fin 3) t₀ d)))
def bodyPost' (c : Dev nD) : sProp 𝕄 :=
  iprop(Φ₁ m c ∗ (dats m b 0 c).owesAt () t₀.succ
    ∗ (((c : Thread nD τ).loc cc0_stg0_0) ↦{fullShare} tstg m c)
    ∗ (((c : Thread nD τ).loc cc0_stg1_0) ↦{fullShare} xstg m c)
    ∗ (((c : Thread nD τ).loc cc0_stg2_0) ↦{fullShare} xstg m (peer b c)))

theorem bodyPost_intro (c : Dev nD) : bodyPost m b c ⊢ bodyPost' m b c := by
  unfold bodyPost bodyPost' owing Dat.owesAt Pipeline.owesWithin tabPts blkPts outAll
  rw [show (dats m b 0 c).owed t₀.succ = 0 from rfl]
  iintro ⟨HΦ, ⟨%W, HO⟩, Ht, Hx, Hout⟩
  isplitl [HΦ]; · iexact HΦ
  isplitl [HO]
  · iexists W
    isplitr; · ipureintro; exact fun _ _ => Or.inl trivial
    iexact HO
  isplitl [Ht]; · iexact Ht
  isplitl [Hx] <;> iassumption

set_option maxRecDepth 4000 in
theorem body_obligation (hT : TableIs m b) (c : Dev nD) : BodyObligation (dats (F := F) m b 0 c) (defs₀ (F := F)) 𝒱₀ () Set.univ := fun t => by
  rw [fin_N t]
  rw [bigSep_W0, bigSep_W0]
  simp only [owns_whole]
  show bodyPre' m b c ⊢ wpc c
    (cc0_body tM (Memref.isWhole_whole _) xM (Memref.isWhole_whole _) oM (Memref.isWhole_whole _) sM (Memref.isWhole_whole _)
      cc0_scratch1 cc0_scratch2) (fun _ => bodyPost' m b c)
  unfold bodyPre' Φ₀ start Dat.owesAt Pipeline.owesWithin
  simp only [before_tab, before_blk]
  iintro ⟨⟨⟨⟨%K, Hg⟩, Hlev⟩, Hcomm⟩, ⟨%W, %hW, HO⟩, ⟨%d0, Ht⟩, ⟨%d1, Hx⟩, ⟨%d2, Hout⟩⟩
  iapply (sound_body m b K hT c fun _ => bodyPost' m b c)
  isplitl
  · unfold bodyPre owing tabPts blkPts outAll
    isplitl [Hg Hlev Hcomm]
    · isplitl [Hg]; · iexact Hg
      isplitl [Hlev] <;> iassumption
    isplitl [HO]; · iexists W; iexact HO
    isplitl [Ht]; · iexact Ht
    isplitl [Hx]; · iexact Hx
    iexists _; iexact Hout
  · iintro H
    iapply (bodyPost_intro m b c); iexact H

end Body

end Cert.KernelIdeal.Exchange

end
-- ==== Proof.KernelIdeal.Launch.lean ====
/-
# The launch of the exchange on all eight devices

The cells of all devices, one invariant each, made at launch from the counters at zero; the tokens of the credits dealt
to the devices that give them; and the run of the program: it terminates from any memory whose tables are the one that
`b` names, with every counter at zero, the arguments unchanged and the result on each device its peer's block.
-/
module

public import proofs.«01_k».proof.Proof.KernelIdeal.Body
public import Idealize.ShloMosaic.Lib.Pipeline.CollectiveSegs
public import Idealize.ShloMosaic.Lib.StableHlo.RunHlo

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (b : Bool)

/-! ## Nine semaphores as the barrier and four pairs -/

/-- A device's own DMA semaphores: of each chunk, the send (0) and the receive (1). -/
def pair (ki : Fin 4 × Fin 2) : Fin 9 := if ki.2 = 0 then jS ki.1 else jR ki.1
theorem pair_injective : Function.Injective pair := by decide
theorem erase_bar : (Finset.univ : Finset (Fin 9)).erase 0 = Finset.univ.map ⟨pair, pair_injective⟩ := by decide

omit [FloatOps F] in
theorem bigSep_fin9 (Φ : Fin 9 → sProp 𝕄) :
    bigSep Finset.univ Φ = iprop(Φ 0 ∗ bigSep Finset.univ fun k : Fin 4 => iprop(Φ (jS k) ∗ Φ (jR k))) := by
  rw [bigSep_univ_at Φ 0, erase_bar, bigSep_map, bigSep_univ_prod]
  simp only [bigSep_fin_two]; rfl

abbrev osem (ki : Fin 4 × Fin 2) : SemLoc sig := csem (pair ki)
theorem ownSemFacts : Pipeline.OwnSemFacts cfg0.spec osem := by decide

abbrev ownZeros (c : Dev nD) : sProp 𝕄 := Pipeline.ownSems0 (Ix := Unit) (Name := ℕ) (U := UU) (Lvl := ℕ) (Val := Elt F) (τ := τ) osem c

omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem ownZeros_eq (c : Dev nD) :
    (ownZeros c : sProp 𝕄) = bigSep Finset.univ fun k : Fin 4 => iprop(semVal (kcell (c, jS k)) 0 ∗ semVal (kcell (c, jR k)) 0) := by
  unfold ownZeros Pipeline.ownSems0
  rw [bigSep_univ_prod]
  simp only [bigSep_fin_two]; rfl

omit [FloatOps F] in
/-- The launch's counters of one device are its nine cells at zero, which is also how the body ends. -/
theorem zeros_eq (c : Dev nD) : (zeros c : sProp 𝕄) = iprop(unscopedSems0 c ∗ ownZeros c) := by
  rw [unscopedSems0_eq, ownZeros_eq]; rfl
omit [FloatOps F] in
theorem zeros_all (c : Dev nD) : (zeros c : sProp 𝕄) = bigSep Finset.univ fun j : Fin 9 => semVal (kcell (c, j)) 0 := by
  rw [bigSep_fin9]; rfl

/-! ## Funding the cells -/

theorem share_eq (c : Dev nD) (w : Fin cfg0.W) : (dats m b 0 c).share w = fullShare := by unfold Dat.share; split <;> rfl

def allCells : Finset (GSem nD τ sig) := Finset.univ.map ⟨kcell, kcell_injective⟩
def allToks : Finset (GSem nD τ sig × ℕ × Unit) :=
  Finset.univ.map ⟨fun cj : Dev nD × Fin 9 => (kcell cj, 0, ()), fun _ _ h => kcell_injective (congrArg Prod.fst h)⟩
def u₀ : UU := (initOf (Pipeline.cells cfgs cellOf_inj) (Pipeline.launchToks cfgs cellOf_inj), initOf allCells allToks)

/-- What the launch deals one device: of each of its own nine cells the opening state, the position, the mark that the
    round is reached and the token. -/
def dealt (c : Dev nD) : sProp 𝕄 :=
  iprop((bigSep Finset.univ fun j : Fin 9 => roundState ER (sched m b) (kcell (c, j)) 0) ∗ (bigSep Finset.univ fun j : Fin 9 => posAt c j)
    ∗ (bigSep Finset.univ fun j : Fin 9 => reached ER (kcell (c, j)) 0) ∗ bigSep Finset.univ fun j : Fin 9 => dutyTok ER (kcell (c, j)) 0 ())
/-- What it holds once the cells are allocated: its positions, and the tokens of the credits that it gives. -/
def settled (c : Dev nD) : sProp 𝕄 :=
  iprop(∃ K, records m b K ∗ (bigSep Finset.univ fun j : Fin 9 => posAt c j) ∗ bigSep Finset.univ fun j : Fin 9 => tokAt b c j)

omit [FloatOps F] in
theorem fund_cells : BI.own (ER (initOf allCells allToks)) ⊢ (|==> bigSep Finset.univ (dealt m b) : sProp 𝕄) := by
  have hX (Φ : GSem nD τ sig → sProp 𝕄) : bigSep allCells Φ = bigSep Finset.univ fun c : Dev nD => bigSep Finset.univ fun j : Fin 9 => Φ (kcell (c, j)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun j : Fin 9 => dutyTok ER (kcell (c, j)) 0 () := by
    unfold allToks; rw [bigSep_map, bigSep_univ_prod]; rfl
  have hs := hX fun g => roundState ER (sched m b) g 0
  have ha := hX fun g => atPos ER g 0 ∅ 0
  have hr := hX fun g => reached ER g 0
  iintro HX
  imod (Rounds.fund ER (sched m b) allCells allToks) $$ HX with ⟨Hst, Hr, Hat, Htok⟩
  imodintro
  unfold dealt posAt
  simp only [bigSep_sep']
  isplitl [Hst]; · iapply (Entails.of_eq hs); iexact Hst
  isplitl [Hat]; · iapply (Entails.of_eq ha); iexact Hat
  isplitl [Hr]; · iapply (Entails.of_eq hr); iexact Hr
  iapply (Entails.of_eq hT); iexact Htok

/-- The cell whose credit device `c` gives on number `j`; to and fro. -/
def giver (cj : Dev nD × Fin 9) : Dev nD × Fin 9 := (payDev b cj.1 cj.2, cj.2)
theorem giver_giver (cj : Dev nD × Fin 9) : giver b (giver b cj) = cj := by
  obtain ⟨c, j⟩ := cj
  unfold giver payDev
  by_cases h : j.val = 0 ∨ 5 ≤ j.val
  · simp only [if_pos h, peer_peer]
  · simp only [if_neg h]
def giverEquiv : Dev nD × Fin 9 ≃ Dev nD × Fin 9 := ⟨giver b, giver b, giver_giver b, giver_giver b⟩

omit [FloatOps F] in
/-- The tokens dealt to the devices that give the credits. -/
theorem deal_toks : (bigSep Finset.univ fun c : Dev nD => bigSep Finset.univ fun j : Fin 9 => (dutyTok ER (kcell (c, j)) 0 () : sProp 𝕄))
    = bigSep Finset.univ fun c : Dev nD => bigSep Finset.univ fun j : Fin 9 => tokAt b c j := by
  rw [← bigSep_univ_prod (fun cj : Dev nD × Fin 9 => (dutyTok ER (kcell cj) 0 () : sProp 𝕄)), bigSep_univ_equiv (giverEquiv b), bigSep_univ_prod]
  rfl

/-- The allocated cells of one device, with what it was dealt of them. -/
def allocated (c : Dev nD) : sProp 𝕄 :=
  iprop((bigSep Finset.univ fun j : Fin 9 => iprop(∃ κ : ℕ, cellInv ER (sched m b) κ (kcell (c, j))))
    ∗ (bigSep Finset.univ fun j : Fin 9 => posAt c j) ∗ (bigSep Finset.univ fun j : Fin 9 => reached ER (kcell (c, j)) 0)
    ∗ bigSep Finset.univ fun j : Fin 9 => dutyTok ER (kcell (c, j)) 0 ())

omit [FloatOps F] in
/-- One device's cells get their invariants. -/
theorem alloc_cells (c : Dev nD) :
    iprop(ownZeros c ∗ unscopedSems0 c ∗ dealt m b c)
      ⊢ |={Set.univ}=> allocated m b c := by
  have halloc : iprop((bigSep Finset.univ fun j : Fin 9 => semVal (kcell (c, j)) 0) ∗ bigSep Finset.univ fun j : Fin 9 => roundState ER (sched m b) (kcell (c, j)) 0)
      ⊢ (|={Set.univ}=> bigSep Finset.univ fun j : Fin 9 => iprop(∃ κ : ℕ, cellInv ER (sched m b) κ (kcell (c, j))) : sProp 𝕄) := by
    rw [← bigSep_sep']
    exact (bigSep_mono fun j _ => (Rounds.body_intro ER (sched m b) (kcell (c, j))).trans inv_alloc).trans (bigSep_fupd _ _)
  unfold dealt allocated
  iintro ⟨Ho, Hu, Hst, Hrest⟩
  imod halloc $$ [Ho Hu Hst] with Hinv
  · isplitl [Ho Hu]
    · iapply (Entails.of_eq ((zeros_eq (F := F) c).symm.trans (zeros_all c)))
      isplitl [Hu] <;> iassumption
    · iexact Hst
  imodintro
  isplitl [Hinv] <;> iassumption

omit [FloatOps F] in
/-- All devices' cells together: the invariants and the marks become common knowledge. -/
theorem settle_cells : (bigSep Finset.univ (allocated m b) : sProp 𝕄) ⊢ bigSep Finset.univ (settled m b) := by
  unfold allocated
  rw [bigSep_sep', bigSep_sep', bigSep_sep', deal_toks b, ← bigSep_univ_prod (fun cj : Dev nD × Fin 9 => iprop(∃ κ : ℕ, cellInv ER (sched m b) κ (kcell cj))),
    ← bigSep_univ_prod (fun cj : Dev nD × Fin 9 => (reached ER (kcell cj) 0 : sProp 𝕄))]
  iintro ⟨HI, Hat, #HR, Htok⟩
  ihave HK := (BI.bigSep_exists_pi Finset.univ (fun (cj : Dev nD × Fin 9) (κ : ℕ) => (cellInv ER (sched m b) κ (kcell cj) : sProp 𝕄))) $$ HI
  icases HK with ⟨%K, #HI⟩
  have hin (c : Dev nD) : iprop(records m b K ∗ (bigSep Finset.univ fun j : Fin 9 => posAt c j) ∗ bigSep Finset.univ fun j : Fin 9 => tokAt b c j)
      ⊢ (settled m b c : sProp 𝕄) := by
    unfold settled; iintro H; iexists K; iexact H
  iapply (BI.bigSep_with_persistent (R := records m b K) fun c _ => hin c)
  isplitr
  · unfold records; isplitl
    · iexact HI
    · iexact HR
  · rw [bigSep_sep']
    isplitl [Hat] <;> iassumption

omit [FloatOps F] in
theorem settle : (bigSep Finset.univ fun c => iprop(ownZeros c ∗ unscopedSems0 c ∗ dealt m b c) : sProp 𝕄)
    ⊢ |={Set.univ}=> bigSep Finset.univ (settled m b) :=
  ((bigSep_mono fun c _ => alloc_cells m b c).trans (bigSep_fupd _ _)).trans (BI.fupd_mono (settle_cells m b))

/-! ## The launch's credit -/

theorem tally_kcell (d c : Dev nD) (j j' : Fin 9) (n : ℕ) :
    (tallyAt (kcell (peer b d, j')) () n : CellTallies nD τ sig Unit) (kcell (c, j)) () = if d = peer b c ∧ j = j' then n else 0 := by
  rw [tallyAt_apply]
  refine if_congr ?_ rfl rfl
  rw [kcell_eq_iff]
  constructor
  · rintro ⟨⟨rfl, rfl⟩, -⟩; exact ⟨(peer_peer b d).symm, rfl⟩
  · rintro ⟨rfl, rfl⟩; exact ⟨⟨(peer_peer b c).symm, rfl⟩, rfl⟩

/-- What device `d` owes on cell `j` of device `c`: what the cell is due, if it is the peer. -/
theorem owed_eq (d c : Dev nD) (j : Fin 9) : O₀ b d (kcell (c, j)) () = if d = peer b c then due j else 0 := by
  unfold O₀
  simp only [debt, Pi.add_apply, Finsupp.add_apply, tally_kcell, Pi.zero_apply, Finsupp.coe_zero]
  by_cases h : d = peer b c
  · simp only [h, true_and, if_true]
    unfold due
    fin_cases j <;> simp [Fin.ext_iff]
  · simp [h]

theorem launch_eq (c : Dev nD) (j : Fin 9) :
    tallyOn (kcell (c, j)) (launchCredit (Pipeline.owing (O₀ b)) 0 (kcell (c, j))) = (tallyAt (kcell (c, j)) () (due j) : CellTallies nD τ sig Unit) := by
  unfold tallyAt; refine congrArg _ (Finsupp.ext fun u => ?_); cases u
  rw [Pipeline.launchCredit_owing, Finsupp.single_eq_same, Finset.sum_congr rfl fun d _ => owed_eq b d c j,
    Finset.sum_ite_eq' Finset.univ (peer b c) fun _ => due j, if_pos (Finset.mem_univ _)]

omit [FloatOps F] in
theorem creds (c : Dev nD) : (Pipeline.launchCred (O₀ b) c : sProp 𝕄) ⊢ bigSep Finset.univ fun j : Fin 9 => credAt c j := by
  unfold Pipeline.launchCred
  refine (bigSep_subset (Finset.subset_univ (Finset.univ.map ⟨csem, csem_injective⟩))).trans ?_
  rw [bigSep_map]
  exact bigSep_mono fun j _ => Entails.of_eq (congrArg cred (launch_eq b c j))

/-! ## The launch theorem's side conditions -/

omit [FloatOps F] in
/-- The ghost state sorted by chunks. -/
theorem ghost_intro (K : Dev nD × Fin 9 → ℕ) (c : Dev nD) :
    iprop(records m b K ∗ (bigSep Finset.univ fun j : Fin 9 => posAt c j) ∗ (bigSep Finset.univ fun j : Fin 9 => tokAt b c j)
        ∗ bigSep Finset.univ fun j : Fin 9 => credAt c j) ⊢ (ghost m b K c : sProp 𝕄) := by
  unfold ghost chunkStart
  simp only [bigSep_fin9, bigSep_sep']
  iintro ⟨HR, ⟨HaB, HaS, HaR⟩, ⟨HtB, HtS, HtR⟩, ⟨HcB, -, HcR⟩⟩
  isplitl [HR]; · iexact HR
  isplitl [HaB HtB HcB]
  · isplitl [HaB]; · iexact HaB
    isplitl [HtB] <;> iassumption
  isplitl [HaS]; · iexact HaS
  isplitl [HaR]; · iexact HaR
  isplitl [HtS]; · iexact HtS
  isplitl [HtR] <;> iassumption

omit [FloatOps F] in
theorem start_intro (c : Dev nD) :
    iprop(Pipeline.unscopedRestP Pipeline.Prefetch.none cfg0.spec c (fun r => m ((c : Thread nD τ).loc r)) ∗ levAts L lv
        ∗ Pipeline.launchCred (O₀ b) c ∗ prngReg c (ρ c) ∗ settled m b c)
      ⊢ |={Set.univ}=> iprop(start m b c ∗ emp) := by
  unfold settled start
  iintro ⟨-, Hlev, Hcr, -, ⟨%K, HR, Hat, Htok⟩⟩
  ihave Hc := (creds (F := F) b c) $$ Hcr
  imodintro
  isplitl
  · isplitr [Hlev]
    · iexists K
      iapply (ghost_intro m b K c)
      isplitl [HR]; · iexact HR
      isplitl [Hat]; · iexact Hat
      isplitl [Htok] <;> iassumption
    · iexact Hlev
  · iempintro

theorem phi0_intro (c : Dev nD) :
    iprop(start m b c ∗ Pipeline.prefHeld Pipeline.Prefetch.none c (fun _ => fullShare.right) (fun k => k.elim0) ∗ Pipeline.scopedRest cfg0.spec c)
      ⊢ (dats m b 0 c).Φ 0 := by
  rw [show (dats m b 0 c).Φ 0 = Φ₀ m b c from rfl, scopedRest0_eq]
  unfold Φ₀ commAll
  iintro ⟨Hs, -, Hr⟩
  isplitl [Hs] <;> iassumption

theorem phi1_exit (c : Dev nD) :
    (dats m b 0 c).Φ (Fin.last cfg0.N) ⊢ iprop(unscopedSems0 c ∗ Pipeline.ownSems0 osem c ∗ Pipeline.scopedRest cfg0.spec c) := by
  rw [show (dats m b 0 c).Φ (Fin.last cfg0.N) = Φ₁ m c from rfl, scopedRest0_eq]
  unfold Φ₁ commAll
  rw [zeros_eq]
  iintro ⟨Hr, Hu, Ho⟩
  isplitl [Hu]; · iexact Hu
  isplitl [Ho]; · iexact Ho
  iexists _; iexact Hr

theorem waits (c : Dev nD) : (levAts L lv : sProp 𝕄) ⊢ Pipeline.cellsWaits cfgs (dats m b) () 0 c :=
  Pipeline.cellsWaits_intro cfgs (dats m b) () 0 c fun w s t =>
    mayWait_stage b c _ (by fin_cases w <;> fin_cases s <;> decide) _ (by
      rcases t with ⟨_ | _, ht⟩
      · exact Or.inl rfl
      · exact Or.inr rfl)

/-! ## The run -/

/-- Every window's array as the pipeline leaves it. -/
def QC : PUnit × MemSt nD τ sig (Elt F) → Prop := fun r =>
  ∀ c : Dev nD, ∀ w : Fin cfg0.W, r.2.mem ((cfg0.win w).arr.view.loc (c : Thread nD τ)) = (dats m b 0 c).arrAt w cfg0.N

set_option maxRecDepth 8000 in
theorem run_main (hT : TableIs m b) :
    θ_run defs (onTc (τ := τ) (main (F := F))) (s₀ m ρ) (fun r => QC m b r ∧ r.2.sem = fun _ => 0) :=
  Pipeline.θ_run_region_owing_glob_pf (fun p => (cfgs p).toPCfg) (fun p => (cfgs p).toPCfg_adm) (dats m b) () cellOf_inj (0 : Fin 1)
    winFacts0.to₀ ownSemFacts (Pipeline.PreFacts.none _) EP defs₀ 𝒱₀ m ρ main
    (hmain := fun _ => rfl)
    (hbody := body_obligation m b hT) (hne := fun w => by fin_cases w <;> exact Nat.succ_pos _) (harr := arr_whole0) (hstage := stage_whole0)
    (hshare := share_eq m b) (hdistinct := winFacts0.arr_inj)
    (O₀ := O₀ b) (howed₀ := fun _ => rfl) (howedN := fun _ => rfl)
    (L := L) (lv := lv) (hL := L_of_ne) (hwaits := waits m b)
    (G := dealt m b) (G' := settled m b) (u₀ := u₀)
    (hu₀ := by
      unfold u₀
      iintro Hu
      ihave H := (ownU_pair _ _) $$ Hu
      icases H with ⟨HP, HX⟩
      imod (fund_cells m b) $$ HX with HG
      imodintro
      isplitl [HP] <;> iassumption)
    (hglob := settle m b)
    (hA := fun _ _ => rfl) (hpf := fun _ k => k.elim0)
    (X := start m b) (Y := fun c => unscopedSems0 c) (Z := fun _ => iprop(emp))
    (hX := start_intro m ρ b) (hin := phi0_intro m b) (hout := phi1_exit m b)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- The one block of the result's window is the whole array, -/
theorem out_cover (i : S1x512x512.Idx) : ∃ t : Fin cfg0.N, (cfg0.win 2).flush t = true ∧ i ∈ ((cfg0.win 2).blk t).view.set := by
  refine ⟨t₀, flush0_2 _, ?_⟩
  show i ∈ ((View.whole main_v1).slice (win0_2.rect t₀)).set
  rw [View.set_slice_whole]
  exact View.mem_set_unit_zero (S := S1x512x512) (by decide +kernel) _ i

/-- so the array ends as the peer's block. -/
theorem out_eq (c : Dev nD) : (dats m b 0 c).arrAt 2 cfg0.N = m ((peer b c : Thread nD τ).loc main_arg0) :=
  (dats m b 0 c).arrAt_eq_of_cover 2 _ (fun t _ => by rw [fin_N t]; rfl) out_cover

/-- The run, by the arrays' names. -/
theorem run_named (hT : TableIs m b) :
    θ_run defs (onTc (τ := τ) (main (F := F))) (s₀ m ρ) (fun r =>
      (∀ c : Dev nD, r.2.mem ((c : Thread nD τ).loc main_v1) = m ((peer b c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  θ_run_mono (run_main m ρ b hT) fun r h => ⟨fun c =>
    ⟨(h.1 c 2).trans (out_eq m b c), (h.1 c 1).trans ((dats m b 0 c).arrAt_in 1 rfl _), (h.1 c 0).trans ((dats m b 0 c).arrAt_in 0 rfl _)⟩, h.2⟩

end Cert.KernelIdeal.Exchange

end
-- ==== Proof.Value.lean ====
/-
# The reference's value

At either table the argsort of the table is the table itself (each is its own inverse), so the reference's result takes
row block `tab b k` of its argument for row block `k`; and the block that device `c` holds of it is the block that
`c`'s peer holds of the argument. The two format changes at the end are the identity on exact values.
-/
module

public import proofs.«01_k».proof.Proof.KernelIdeal.Protocol
public import proofs.«01_k».proof.Proof.Gen.ReferenceIdeal.Run
public import Idealize.ShloMosaic.Lib.Layout
public import Idealize.ShloMosaic.PureOps.Ideal

@[expose] public section

noncomputable section

namespace Cert.ReferenceIdeal.Blocks

open Cert.ReferenceIdeal Cert.ReferenceIdeal.Gen
open Idealize.ShloMosaic Idealize.ShloMosaic.TcCoe
open Cert.KernelIdeal.Exchange (tab peer)

/-- The table that `b` names. -/
def table (b : Bool) : IVec S2 32 := fun i => tab b (i 0).val

/-- The table's argsort. -/
def order (pi : IVec S2 32) : IVec S2 32 := (Host.sort2 S2 0 comparator_i32_i32_d0 pi (iotaInDim S2 32 0)).2

theorem order_table (b : Bool) : order (table b) = table b := by cases b <;> decide

/-- The positions from which the reference takes its blocks, a column: negative ones count from the end. -/
def column (pi : IVec S2 32) : IVec S2x1 32 :=
  broadcastInDim S2x1 ![0] bcast_S2_S2x1_0
    (select (cmpi .slt (order pi) (broadcastInDim S2 ![] bcast_S_S2 (constantI S_ 32 0#32)))
      (addi (order pi) (broadcastInDim S2 ![] bcast_S_S2 (constantI S_ 32 2#32))) (order pi))

theorem column_table (b : Bool) : column (table b) = fun i => tab b (i 0).val := by
  unfold column
  rw [order_table]
  cases b <;> decide

/-- The blocks taken in that order. -/
def taken {F : FTy → Type} (x : FVec F S2x512x512 .bf16) (pi : IVec S2 32) : FVec F S2x512x512 .bf16 :=
  Host.gather gather_S2x512x512_S2x1_S2x512x512_12_0_n_n_0_1_1512512 x (column pi)

/-- At a table, entry `j` is the argument's entry of row block `tab b (j 0)` and the same place in it. -/
theorem taken_table {F : FTy → Type} (b : Bool) (x : FVec F S2x512x512 .bf16) (j i : S2x512x512.Idx)
    (h0 : (i 0).val = (tab b (j 0).val).toNat) (h1 : (i 1).val = (j 1).val) (h2 : (i 2).val = (j 2).val) :
    taken x (table b) j = x i := by
  unfold taken
  rw [column_table]
  refine congrArg x (funext fun a => Fin.ext ?_)
  match a with
  | ⟨0, _⟩ =>
    refine Eq.trans (b := min (tab b (j 0).val).toInt.toNat 1) rfl (Eq.trans ?_ h0.symm)
    unfold tab; split <;> decide
  | ⟨1, _⟩ => exact (Nat.zero_add _).trans h1.symm
  | ⟨2, _⟩ => exact (Nat.zero_add _).trans h2.symm

/-- Which of the two blocks device `c` holds; its peer holds the one that the table names there. -/
theorem peer_block (b : Bool) (c : Dev Cert.KernelIdeal.nD) :
    ((peer b c).val / 2) % 2 = (tab b (c.val / 2 % 2)).toNat := by revert b c; decide

/-- The shape of one device's block, and that two of them make the array. -/
abbrev SBlock : Shape := ⟨3, ![1, 512, 512]⟩
/-- The block that device `c` holds along each dimension. -/
abbrev mine (c : Dev Cert.KernelIdeal.nD) := Layout.meshBlock [2, 2, 2] (![[1], [], []] : Fin 3 → List ℕ) c
theorem mine_val (c : Dev Cert.KernelIdeal.nD) : (mine c 0).val = c.val / 2 % 2 := by revert c; decide
theorem tiles : Layout.TilesN SBlock S2x512x512 (fun b => Layout.cutSize [2, 2, 2] ((![[1], [], []] : Fin 3 → List ℕ) b)) := by decide

/-- Where device `c`'s entry `i` is in the array. -/
theorem place_0 (c : Dev Cert.KernelIdeal.nD) (i : SBlock.Idx) : (tiles.idx (mine c) i 0).val = c.val / 2 % 2 := by
  have hi : (i 0).val = 0 := Nat.lt_one_iff.mp (i 0).isLt
  rw [Layout.TilesN.idx_val]
  refine Eq.trans (b := (mine c 0).val * 1 + (i 0).val) rfl ?_
  rw [hi, mine_val, Nat.mul_one]; rfl
theorem place_1 (c : Dev Cert.KernelIdeal.nD) (i : SBlock.Idx) : (tiles.idx (mine c) i 1).val = (i 1).val := by
  rw [Layout.TilesN.idx_val]
  exact (congrArg (· + _) (Nat.zero_mul _)).trans (Nat.zero_add _)
theorem place_2 (c : Dev Cert.KernelIdeal.nD) (i : SBlock.Idx) : (tiles.idx (mine c) i 2).val = (i 2).val := by
  rw [Layout.TilesN.idx_val]
  exact (congrArg (· + _) (Nat.zero_mul _)).trans (Nat.zero_add _)

/-- The peer's block of the argument is the device's own block of the blocks taken. -/
theorem part_taken {F : FTy → Type} (b : Bool) (x : FVec F S2x512x512 .bf16) (c : Dev Cert.KernelIdeal.nD) :
    Layout.blockN SBlock S2x512x512 (mine (peer b c)) x tiles = Layout.blockN SBlock S2x512x512 (mine c) (taken x (table b)) tiles := by
  funext i
  rw [Layout.blockN_apply, Layout.blockN_apply]
  exact (taken_table b x _ _ (by rw [place_0, place_0, peer_block]) (by rw [place_1, place_1]) (by rw [place_2, place_2])).symm

end Cert.ReferenceIdeal.Blocks

end
-- ==== Proof.lean ====
/-
# The certificate's proof

The kernel's launch is proved once for any float values and any table of the two (`Launch.lean` of each program, by the
program's name alone the same text); the frames are that run with the values dropped. The preconditions name the table.
For the values, the block that a device ends with, its peer's block of the argument, is its own block of
the reference's result (`Value.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Kernel.Launch
public import proofs.«01_k».proof.Proof.KernelIdeal.Launch
public import proofs.«01_k».proof.Proof.Value

@[expose] public section

noncomputable section

namespace Cert.Proof

open Idealize.ShloMosaic Idealize.ShloMosaic.TcCoe Idealize.SL.Sem

/-! ## From the preconditions to the table -/

/-- Two comparisons of a table's words that both hold give the two words. -/
theorem words_of_andi (u v p q : BitVec 32) (h : IntOp.andi (IntOp.cmpi .eq u p) (IntOp.cmpi .eq v q) = 1#1) : u = p ∧ v = q := by
  have both : ∀ x y : Bool, IntOp.andi (BitVec.ofBool x) (BitVec.ofBool y) = 1#1 → x = true ∧ y = true := by decide
  exact (both _ _ h).imp eq_of_beq eq_of_beq

/-- The place of a table's word. -/
def place (k : Fin 2) : (⟨1, ![2]⟩ : Shape).Idx := fun a => ⟨k.val, by fin_cases a; exact k.isLt⟩

/-- A table of two words is known by its two entries. -/
theorem table_ext (t u : IVec ⟨1, ![2]⟩ 32) (h0 : t (place 0) = u (place 0)) (h1 : t (place 1) = u (place 1)) : t = u := by
  funext i
  have hi : i = place 0 ∨ i = place 1 := by revert i; decide
  rcases hi with rfl | rfl <;> assumption

/-- A word of the table as a predicate reads it: the slice of length one, reshaped to a scalar. -/
theorem word_eq (t : IVec ⟨1, ![2]⟩ 32) (k : Fin 2) (hs : (⟨1, ![2]⟩ : Shape).Slices ![k.val] ⟨1, ![1]⟩)
    (hc : (⟨1, ![1]⟩ : Shape).ShapeCasts ⟨0, ![]⟩) (i : (⟨0, ![]⟩ : Shape).Idx) :
    shapeCast ⟨0, ![]⟩ (extractStridedSlice ⟨1, ![1]⟩ ![k.val] t hs) hc i = t (place k) := by
  refine congrArg t (funext fun a => Fin.ext ?_)
  obtain rfl : a = 0 := Subsingleton.elim (α := Fin 1) a 0
  exact congrArg (k.val + ·) (Nat.lt_one_iff.mp (Shape.reshapeEquiv hc i 0).isLt)

section
variable {F : FTy → Type} [FloatOps F] (x : FVec F ⟨3, ![1, 512, 512]⟩ .bf16) (t : IVec ⟨1, ![2]⟩ 32)

theorem table_of_swaps [Cert.Pre_swaps_Kernel.Facts] (h : Cert.Pre_swaps_Kernel.fn (F := F) x t = fun _ => 1#1) :
    t = Cert.ReferenceIdeal.Blocks.table true := by
  have e := words_of_andi _ _ _ _ (congrFun h fun a => a.elim0)
  exact table_ext _ _ ((word_eq t 0 _ _ _).symm.trans e.1) ((word_eq t 1 _ _ _).symm.trans e.2)

theorem table_of_stays [Cert.Pre_stays_Kernel.Facts] (h : Cert.Pre_stays_Kernel.fn (F := F) x t = fun _ => 1#1) :
    t = Cert.ReferenceIdeal.Blocks.table false := by
  have e := words_of_andi _ _ _ _ (congrFun h fun a => a.elim0)
  exact table_ext _ _ ((word_eq t 0 _ _ _).symm.trans e.1) ((word_eq t 1 _ _ _).symm.trans e.2)

end

/-! ## The frames -/

section
variable {F : FTy → Type} [FloatOps F]

/-- The kernel's run at either table, its values dropped. -/
theorem frame_Kernel (b : Bool) (m : (ℓ : Loc Cert.Kernel.nD Cert.Kernel.τ Cert.Kernel.sig) → Buf (Elt F) ℓ) (g : Dev Cert.Kernel.nD → PrngReg)
    (h : Cert.Kernel.Exchange.TableIs m b) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  θ_run_mono (Cert.Kernel.Exchange.run_named m g b h) fun _ q => ⟨fun c => (q.1 c).2, q.2⟩

theorem frame_KernelIdeal (b : Bool) (m : (ℓ : Loc Cert.KernelIdeal.nD Cert.KernelIdeal.τ Cert.KernelIdeal.sig) → Buf (Elt F) ℓ)
    (g : Dev Cert.KernelIdeal.nD → PrngReg) (h : Cert.KernelIdeal.Exchange.TableIs m b) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  θ_run_mono (Cert.KernelIdeal.Exchange.run_named m g b h) fun _ q => ⟨fun c => (q.1 c).2, q.2⟩

end

/-- The reference's run from any memory: a straight line of host operations, which touches no counter. -/
theorem frame_Reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  θ_run_mono (Cert.ReferenceIdeal.Value.run m g) fun r q => ⟨fun c => (q c).2, sem_eq_zero_of_no_sems (by decide) r.2⟩

/-! ## The values -/

/-- From the same arguments and at either table, the kernel's results are the blocks of the reference's. -/
theorem values (b : Bool)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (ht : ∀ c : Dev Cert.KernelIdeal.nD, m ((c.tc : Thread Cert.KernelIdeal.nD Cert.KernelIdeal.τ).loc Cert.KernelIdeal.main_arg1) = Cert.ReferenceIdeal.Blocks.table b)
    (h : ∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht' := (h 0).2.symm.trans (ht 0)
  refine ⟨Cert.ReferenceIdeal.Blocks.taken (F := Ideal) (m' (((0 : Dev Cert.ReferenceIdeal.nD).tc : Thread Cert.ReferenceIdeal.nD Cert.ReferenceIdeal.τ).loc Cert.ReferenceIdeal.main_arg0)) (Cert.ReferenceIdeal.Blocks.table b), ?_, ?_⟩
  · refine θ_run_mono (Cert.KernelIdeal.Exchange.run_named m g b fun c i => congrFun (ht c) i) fun r q c => ⟨?_, (q.1 c).2⟩
    exact (q.1 c).1.trans ((h _).1.trans (Cert.ReferenceIdeal.Blocks.part_taken (F := Ideal) b (m' (((0 : Dev Cert.ReferenceIdeal.nD).tc : Thread Cert.ReferenceIdeal.nD Cert.ReferenceIdeal.τ).loc Cert.ReferenceIdeal.main_arg0)) c))
  · refine θ_run_mono (Cert.ReferenceIdeal.Value.run m' g') fun r q => ⟨(q 0).1.trans ?_, (q 0).2⟩
    rw [← ht']; rfl

theorem claim : Cert.Claim := by
  refine ⟨Cert.Kernel.Gen.facts, Cert.KernelIdeal.Gen.facts, Cert.ReferenceIdeal.Gen.facts, Cert.Pre_swaps_Kernel.Gen.facts,
    Cert.Pre_stays_Kernel.Gen.facts, Cert.Pre_swaps_ReferenceIdeal.Gen.facts, Cert.Pre_stays_ReferenceIdeal.Gen.facts, ?_⟩
  exact ⟨fun m g h => frame_Kernel true m g fun c i => congrFun (table_of_swaps _ _ (h c)) i,
    fun m g h => frame_Kernel false m g fun c i => congrFun (table_of_stays _ _ (h c)) i,
    fun m g h => frame_KernelIdeal true m g fun c i => congrFun (table_of_swaps _ _ (h c)) i,
    fun m g h => frame_KernelIdeal false m g fun c i => congrFun (table_of_stays _ _ (h c)) i,
    fun m g _ => frame_Reference m g, fun m g _ => frame_Reference m g, fun m g _ => frame_Reference m g,
    trivial,
    fun m g m' g' h => values true m g m' g' fun c => table_of_swaps _ _ (h c),
    fun m g m' g' h => values false m g m' g' fun c => table_of_stays _ _ (h c)⟩

end Cert.Proof

end
